-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_positive [hPre_gates_positive : Cert.Pre_gates_positive.Facts] (m : (ℓ : Loc Cert.KernelIdeal.nD Cert.KernelIdeal.τ Cert.KernelIdeal.sig) → Buf (Elt Ideal) ℓ) : Prop :=
  ∀ c : Dev Cert.KernelIdeal.nD,
    (Cert.Pre_gates_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_positive [hPre_gates_positive : Cert.Pre_gates_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_gates_positive [hKernelIdeal : Cert.KernelIdeal.Facts] [hPre_gates_positive : Cert.Pre_gates_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_gates_positive [hReferenceIdeal : Cert.ReferenceIdeal.Facts] [hPre_gates_positive : Cert.Pre_gates_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_gates_positive [hKernelIdeal : Cert.KernelIdeal.Facts] [hReferenceIdeal : Cert.ReferenceIdeal.Facts] [hPre_gates_positive : Cert.Pre_gates_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_gates_positive : Cert.Pre_gates_positive.Facts),
    quiescent_Kernel (hKernel := hKernel)
    ∧ quiescent_KernelIdeal (hKernelIdeal := hKernelIdeal)
    ∧ quiescent_KernelIdeal_pre_gates_positive (hKernelIdeal := hKernelIdeal) (hPre_gates_positive := hPre_gates_positive)
    ∧ quiescent_ReferenceIdeal (hReferenceIdeal := hReferenceIdeal)
    ∧ quiescent_ReferenceIdeal_pre_gates_positive (hReferenceIdeal := hReferenceIdeal) (hPre_gates_positive := hPre_gates_positive)
    ∧ preserves_Kernel_KernelIdeal
    ∧ algebraic_KernelIdeal_ReferenceIdeal_pre_gates_positive (hKernelIdeal := hKernelIdeal) (hReferenceIdeal := hReferenceIdeal) (hPre_gates_positive := hPre_gates_positive)
-- ==== Pre_gates_positive.lean ====
abbrev S448x128x768 : Shape := ⟨3, ![448, 128, 768]⟩
abbrev S448x64x768 : Shape := ⟨3, ![448, 64, 768]⟩
abbrev S448x32x768 : Shape := ⟨3, ![448, 32, 768]⟩
abbrev S448x3 : Shape := ⟨2, ![448, 3]⟩
abbrev S1x1 : Shape := ⟨2, ![1, 1]⟩
abbrev S16x768 : Shape := ⟨2, ![16, 768]⟩
abbrev S16 : Shape := ⟨1, ![16]⟩
abbrev S32x768 : Shape := ⟨2, ![32, 768]⟩
abbrev S32 : Shape := ⟨1, ![32]⟩
abbrev S64x768 : Shape := ⟨2, ![64, 768]⟩
abbrev S64 : Shape := ⟨1, ![64]⟩
abbrev S_ : Shape := ⟨0, ![]⟩

class Facts : Prop where
  bcast_S_S448x3 : S_.BroadcastsInDim S448x3 (![] : Fin 0 → Fin S448x3.rank)

variable [Facts]

def fn {F : FTy → Type} [FloatOps F] (main_arg0 : FVec F S448x128x768 .f32) (main_arg1 : FVec F S448x64x768 .f32) (main_arg2 : FVec F S448x32x768 .f32) (main_arg3 : FVec F S448x3 .f32) (main_arg4 : FVec F S1x1 .f32) (main_arg5 : FVec F S16x768 .f32) (main_arg6 : FVec F S16 .f32) (main_arg7 : FVec F S32x768 .f32) (main_arg8 : FVec F S32 .f32) (main_arg9 : FVec F S64x768 .f32) (main_arg10 : FVec F S64 .f32) : IVec S448x3 1 :=
  let main_cst : FVec F S_ .f32 := constant S_ .f32 0x00000000#32
  let main_v0 : FVec F S448x3 .f32 := broadcastInDim S448x3 ![] bcast_S_S448x3 main_cst
  let main_v1 : IVec S448x3 1 := cmpf .ogt main_arg3 main_v0
  main_v1
-- ==== Kernel.lean ====
abbrev S448x128x768 : Shape := ⟨3, ![448, 128, 768]⟩
abbrev S448x64x768 : Shape := ⟨3, ![448, 64, 768]⟩
abbrev S448x32x768 : Shape := ⟨3, ![448, 32, 768]⟩
abbrev S448x3 : Shape := ⟨2, ![448, 3]⟩
abbrev S1x1 : Shape := ⟨2, ![1, 1]⟩
abbrev S16x768 : Shape := ⟨2, ![16, 768]⟩
abbrev S16 : Shape := ⟨1, ![16]⟩
abbrev S32x768 : Shape := ⟨2, ![32, 768]⟩
abbrev S32 : Shape := ⟨1, ![32]⟩
abbrev S64x768 : Shape := ⟨2, ![64, 768]⟩
abbrev S64 : Shape := ⟨1, ![64]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S1x32 : Shape := ⟨2, ![1, 32]⟩
abbrev S4x32 : Shape := ⟨2, ![4, 32]⟩
abbrev S1x64 : Shape := ⟨2, ![1, 64]⟩
abbrev S2x64 : Shape := ⟨2, ![2, 64]⟩
abbrev S7168x128 : Shape := ⟨2, ![7168, 128]⟩
abbrev S32x14x2048 : Shape := ⟨3, ![32, 14, 2048]⟩
abbrev S32x2048x14 : Shape := ⟨3, ![32, 2048, 14]⟩
abbrev S16x128x768 : Shape := ⟨3, ![16, 128, 768]⟩
abbrev S16x64x768 : Shape := ⟨3, ![16, 64, 768]⟩
abbrev S16x32x768 : Shape := ⟨3, ![16, 32, 768]⟩
abbrev S16x3 : Shape := ⟨2, ![16, 3]⟩
abbrev S256x128 : Shape := ⟨2, ![256, 128]⟩
abbrev S2048x128 : Shape := ⟨2, ![2048, 128]⟩
abbrev S2048x768 : Shape := ⟨2, ![2048, 768]⟩
abbrev S2048x16 : Shape := ⟨2, ![2048, 16]⟩
abbrev S1024x768 : Shape := ⟨2, ![1024, 768]⟩
abbrev S1024x32 : Shape := ⟨2, ![1024, 32]⟩
abbrev S512x768 : Shape := ⟨2, ![512, 768]⟩
abbrev S512x64 : Shape := ⟨2, ![512, 64]⟩
abbrev S16x1x3 : Shape := ⟨3, ![16, 1, 3]⟩
abbrev S16x16x3 : Shape := ⟨3, ![16, 16, 3]⟩
abbrev S256x3 : Shape := ⟨2, ![256, 3]⟩
abbrev S256x16 : Shape := ⟨2, ![256, 16]⟩
abbrev S256x1 : Shape := ⟨2, ![256, 1]⟩
abbrev S256x32 : Shape := ⟨2, ![256, 32]⟩
abbrev S256x64 : Shape := ⟨2, ![256, 64]⟩

abbrev nBuf : Space → Nat
  | .hbm => 26
  | .vmem => 17
  | .smem => 0
  | _ => 0

abbrev bufTy : (tb : Table) → Fin (tcTables nBuf tb) → BufTy
  | .hbm, ⟨0, _⟩ => ⟨S448x128x768, .f32⟩
  | .hbm, ⟨1, _⟩ => ⟨S448x64x768, .f32⟩
  | .hbm, ⟨2, _⟩ => ⟨S448x32x768, .f32⟩
  | .hbm, ⟨3, _⟩ => ⟨S448x3, .f32⟩
  | .hbm, ⟨4, _⟩ => ⟨S1x1, .f32⟩
  | .hbm, ⟨5, _⟩ => ⟨S16x768, .f32⟩
  | .hbm, ⟨6, _⟩ => ⟨S16, .f32⟩
  | .hbm, ⟨7, _⟩ => ⟨S32x768, .f32⟩
  | .hbm, ⟨8, _⟩ => ⟨S32, .f32⟩
  | .hbm, ⟨9, _⟩ => ⟨S64x768, .f32⟩
  | .hbm, ⟨10, _⟩ => ⟨S64, .f32⟩
  | .hbm, ⟨11, _⟩ => ⟨S1x16, .f32⟩
  | .hbm, ⟨12, _⟩ => ⟨S8x16, .f32⟩
  | .hbm, ⟨13, _⟩ => ⟨S128, .f32⟩
  | .hbm, ⟨14, _⟩ => ⟨S1x128, .f32⟩
  | .hbm, ⟨15, _⟩ => ⟨S1x32, .f32⟩
  | .hbm, ⟨16, _⟩ => ⟨S4x32, .f32⟩
  | .hbm, ⟨17, _⟩ => ⟨S128, .f32⟩
  | .hbm, ⟨18, _⟩ => ⟨S1x128, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S7168x128, .f32⟩
  | .hbm, ⟨24, _⟩ => ⟨S32x14x2048, .f32⟩
  | .hbm, ⟨25, _⟩ => ⟨S32x2048x14, .f32⟩
  | .local _ .vmem, ⟨0, _⟩ => ⟨S16x128x768, .f32⟩
  | .local _ .vmem, ⟨1, _⟩ => ⟨S16x128x768, .f32⟩
  | .local _ .vmem, ⟨2, _⟩ => ⟨S16x64x768, .f32⟩
  | .local _ .vmem, ⟨3, _⟩ => ⟨S16x64x768, .f32⟩
  | .local _ .vmem, ⟨4, _⟩ => ⟨S16x32x768, .f32⟩
  | .local _ .vmem, ⟨5, _⟩ => ⟨S16x32x768, .f32⟩
  | .local _ .vmem, ⟨6, _⟩ => ⟨S16x3, .f32⟩
  | .local _ .vmem, ⟨7, _⟩ => ⟨S16x3, .f32⟩
  | .local _ .vmem, ⟨8, _⟩ => ⟨S16x768, .f32⟩
  | .local _ .vmem, ⟨9, _⟩ => ⟨S32x768, .f32⟩
  | .local _ .vmem, ⟨10, _⟩ => ⟨S64x768, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S256x128, .f32⟩
  | .local _ .vmem, ⟨15, _⟩ => ⟨S256x128, .f32⟩
  | .local _ .vmem, ⟨16, _⟩ => ⟨S2048x128, .f32⟩
  | _, _ => ⟨S448x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![28], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S448x128x768 : Shape := ⟨3, ![448, 128, 768]⟩
abbrev S448x64x768 : Shape := ⟨3, ![448, 64, 768]⟩
abbrev S448x32x768 : Shape := ⟨3, ![448, 32, 768]⟩
abbrev S448x3 : Shape := ⟨2, ![448, 3]⟩
abbrev S1x1 : Shape := ⟨2, ![1, 1]⟩
abbrev S16x768 : Shape := ⟨2, ![16, 768]⟩
abbrev S16 : Shape := ⟨1, ![16]⟩
abbrev S32x768 : Shape := ⟨2, ![32, 768]⟩
abbrev S32 : Shape := ⟨1, ![32]⟩
abbrev S64x768 : Shape := ⟨2, ![64, 768]⟩
abbrev S64 : Shape := ⟨1, ![64]⟩
abbrev S448x128x16 : Shape := ⟨3, ![448, 128, 16]⟩
abbrev S1x1x16 : Shape := ⟨3, ![1, 1, 16]⟩
abbrev S448x2048x1 : Shape := ⟨3, ![448, 2048, 1]⟩
abbrev S448x64x32 : Shape := ⟨3, ![448, 64, 32]⟩
abbrev S1x1x32 : Shape := ⟨3, ![1, 1, 32]⟩
abbrev S448x32x64 : Shape := ⟨3, ![448, 32, 64]⟩
abbrev S1x1x64 : Shape := ⟨3, ![1, 1, 64]⟩
abbrev S1344 : Shape := ⟨1, ![1344]⟩
abbrev S_ : Shape := ⟨0, ![]⟩
abbrev S1344x1 : Shape := ⟨2, ![1344, 1]⟩
abbrev S1 : Shape := ⟨1, ![1]⟩
abbrev S1344x2 : Shape := ⟨2, ![1344, 2]⟩
abbrev S1344x2x1 : Shape := ⟨3, ![1344, 2, 1]⟩
abbrev S1x1x1 : Shape := ⟨3, ![1, 1, 1]⟩
abbrev S1344x3 : Shape := ⟨2, ![1344, 3]⟩
abbrev S1344x1x1 : Shape := ⟨3, ![1344, 1, 1]⟩
abbrev S1344x2048x1 : Shape := ⟨3, ![1344, 2048, 1]⟩
abbrev S32x14x2048x1 : Shape := ⟨4, ![32, 14, 2048, 1]⟩
abbrev S32x2048x14x1 : Shape := ⟨4, ![32, 2048, 14, 1]⟩
abbrev S32x2048x14 : Shape := ⟨3, ![32, 2048, 14]⟩

abbrev nBuf : Space → Nat
  | .hbm => 247
  | .vmem => 0
  | .smem => 0
  | _ => 0

abbrev hbmTy0_0 (i : Nat) : BufTy := match i % 128 with
  | 0 => ⟨S448x128x768, .f32⟩
  | 1 => ⟨S448x64x768, .f32⟩
  | 2 => ⟨S448x32x768, .f32⟩
  | 3 => ⟨S448x3, .f32⟩
  | 4 => ⟨S1x1, .f32⟩
  | 5 => ⟨S16x768, .f32⟩
  | 6 => ⟨S16, .f32⟩
  | 7 => ⟨S32x768, .f32⟩
  | 8 => ⟨S32, .f32⟩
  | 9 => ⟨S64x768, .f32⟩
  | 10 => ⟨S64, .f32⟩
  | 11 => ⟨S448x128x16, .f32⟩
  | 12 => ⟨S1x1x16, .f32⟩
  | 13 => ⟨S448x128x16, .f32⟩
  | 14 => ⟨S448x128x16, .f32⟩
  | 15 => ⟨S448x2048x1, .f32⟩
  | 16 => ⟨S448x64x32, .f32⟩
  | 17 => ⟨S1x1x32, .f32⟩
  | 18 => ⟨S448x64x32, .f32⟩
  | 19 => ⟨S448x64x32, .f32⟩
  | 20 => ⟨S448x2048x1, .f32⟩
  | 21 => ⟨S448x32x64, .f32⟩
  | 22 => ⟨S1x1x64, .f32⟩
  | 23 => ⟨S448x32x64, .f32⟩
  | 24 => ⟨S448x32x64, .f32⟩
  | 25 => ⟨S448x2048x1, .f32⟩
  | 26 => ⟨S1344, .f32⟩
  | 27 => ⟨S_, .f32⟩
  | 28 => ⟨S1344, .f32⟩
  | 29 => ⟨S1344, .i1⟩
  | 30 => ⟨S1344, .i32⟩
  | 31 => ⟨S_, .i32⟩
  | 32 => ⟨S_, .i32⟩
  | 33 => ⟨S1344, .i32⟩
  | 34 => ⟨S_, .i32⟩
  | 35 => ⟨S1344, .i32⟩
  | 36 => ⟨S_, .i32⟩
  | 37 => ⟨S1344, .i32⟩
  | 38 => ⟨S1344, .i1⟩
  | 39 => ⟨S_, .i32⟩
  | 40 => ⟨S1344, .i32⟩
  | 41 => ⟨S1344, .i32⟩
  | 42 => ⟨S1344, .i32⟩
  | 43 => ⟨S1344x1, .i32⟩
  | 44 => ⟨S_, .i32⟩
  | 45 => ⟨S1344, .i32⟩
  | 46 => ⟨S1344, .i32⟩
  | 47 => ⟨S_, .i32⟩
  | 48 => ⟨S_, .i32⟩
  | 49 => ⟨S1344, .i32⟩
  | 50 => ⟨S_, .i32⟩
  | 51 => ⟨S_, .i32⟩
  | 52 => ⟨S1344, .i32⟩
  | 53 => ⟨S1344, .i32⟩
  | 54 => ⟨S1344, .i32⟩
  | 55 => ⟨S_, .i32⟩
  | 56 => ⟨S1344, .i32⟩
  | 57 => ⟨S1344, .i1⟩
  | 58 => ⟨S1344, .i32⟩
  | 59 => ⟨S1344, .i32⟩
  | 60 => ⟨S_, .i32⟩
  | 61 => ⟨S1344, .i32⟩
  | 62 => ⟨S1344, .i1⟩
  | 63 => ⟨S1344, .i1⟩
  | 64 => ⟨S_, .i32⟩
  | 65 => ⟨S1344, .i32⟩
  | 66 => ⟨S1344, .i32⟩
  | 67 => ⟨S1344, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S1344, .i32⟩
  | 75 => ⟨S1344, .i32⟩
  | 76 => ⟨S_, .i32⟩
  | 77 => ⟨S1344, .i32⟩
  | 78 => ⟨S1344, .i1⟩
  | 79 => ⟨S_, .i32⟩
  | 80 => ⟨S1344, .i32⟩
  | 81 => ⟨S1344, .i1⟩
  | 82 => ⟨S_, .i32⟩
  | 83 => ⟨S_, .i1⟩
  | 84 => ⟨S1344, .i1⟩
  | 85 => ⟨S1344, .i1⟩
  | 86 => ⟨S1344, .i1⟩
  | 87 => ⟨S1344, .i32⟩
  | 88 => ⟨S1344, .i32⟩
  | 89 => ⟨S1344, .i32⟩
  | 90 => ⟨S_, .i32⟩
  | 91 => ⟨S_, .i32⟩
  | 92 => ⟨S1344, .i32⟩
  | 93 => ⟨S1344, .i32⟩
  | 94 => ⟨S1344, .i32⟩
  | 95 => ⟨S_, .i32⟩
  | 96 => ⟨S1344, .i32⟩
  | 97 => ⟨S1344, .i1⟩
  | 98 => ⟨S1344, .i32⟩
  | 99 => ⟨S1344, .i32⟩
  | 100 => ⟨S_, .i32⟩
  | 101 => ⟨S1344, .i32⟩
  | 102 => ⟨S1344, .i1⟩
  | 103 => ⟨S1344, .i1⟩
  | 104 => ⟨S_, .i32⟩
  | 105 => ⟨S1344, .i32⟩
  | 106 => ⟨S1344, .i32⟩
  | 107 => ⟨S1344, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S1344, .i32⟩
  | 115 => ⟨S1344, .i32⟩
  | 116 => ⟨S_, .i32⟩
  | 117 => ⟨S1344, .i32⟩
  | 118 => ⟨S1344, .i1⟩
  | 119 => ⟨S_, .i32⟩
  | 120 => ⟨S1344, .i32⟩
  | 121 => ⟨S1344, .i1⟩
  | 122 => ⟨S_, .i32⟩
  | 123 => ⟨S_, .i1⟩
  | 124 => ⟨S1344, .i1⟩
  | 125 => ⟨S1344, .i1⟩
  | 126 => ⟨S1344, .i1⟩
  | 127 => ⟨S1344, .i32⟩
  | _ => ⟨S448x128x768, .f32⟩

abbrev hbmTy0_1 (i : Nat) : BufTy := match i % 128 with
  | 0 => ⟨S1344, .i32⟩
  | 1 => ⟨S1344, .i32⟩
  | 2 => ⟨S1344, .i32⟩
  | 3 => ⟨S_, .i32⟩
  | 4 => ⟨S_, .i32⟩
  | 5 => ⟨S1, .i32⟩
  | 6 => ⟨S1344, .i32⟩
  | 7 => ⟨S1344, .i32⟩
  | 8 => ⟨S1344, .i1⟩
  | 9 => ⟨S_, .i32⟩
  | 10 => ⟨S_, .i32⟩
  | 11 => ⟨S1344, .i32⟩
  | 12 => ⟨S1344, .i32⟩
  | 13 => ⟨S_, .i32⟩
  | 14 => ⟨S_, .i32⟩
  | 15 => ⟨S1344, .i32⟩
  | 16 => ⟨S1344, .i32⟩
  | 17 => ⟨S1344x1, .i32⟩
  | 18 => ⟨S1344x1, .i32⟩
  | 19 => ⟨S1344x2, .i32⟩
  | 20 => ⟨S1344x2, .i32⟩
  | 21 => ⟨S1344x2, .i32⟩
  | 22 => ⟨S1344x2, .i32⟩
  | 23 => ⟨S_, .i32⟩
  | 24 => ⟨S1344x2, .i32⟩
  | 25 => ⟨S1344x2, .i1⟩
  | 26 => ⟨S_, .i32⟩
  | 27 => ⟨S1344x2, .i32⟩
  | 28 => ⟨S1344x2, .i32⟩
  | 29 => ⟨S1344x2, .i32⟩
  | 30 => ⟨S1344x2x1, .i32⟩
  | 31 => ⟨S1, .i32⟩
  | 32 => ⟨S_, .i32⟩
  | 33 => ⟨S1344x2x1, .i32⟩
  | 34 => ⟨S1344x2x1, .i1⟩
  | 35 => ⟨S1x1x1, .i32⟩
  | 36 => ⟨S1344x2x1, .i32⟩
  | 37 => ⟨S1344x2x1, .i1⟩
  | 38 => ⟨S1344x2x1, .i1⟩
  | 39 => ⟨S_, .i1⟩
  | 40 => ⟨S1344x2, .i1⟩
  | 41 => ⟨S1344x2, .i32⟩
  | 42 => ⟨S_, .i32⟩
  | 43 => ⟨S1344x2, .i32⟩
  | 44 => ⟨S1344x2, .i32⟩
  | 45 => ⟨S1344x1, .i32⟩
  | 46 => ⟨S1344x1, .i32⟩
  | 47 => ⟨S1344, .i32⟩
  | 48 => ⟨S_, .i32⟩
  | 49 => ⟨S1344, .i32⟩
  | 50 => ⟨S1344, .i1⟩
  | 51 => ⟨S_, .i32⟩
  | 52 => ⟨S1344, .i32⟩
  | 53 => ⟨S1344, .i32⟩
  | 54 => ⟨S1344, .i32⟩
  | 55 => ⟨S_, .i32⟩
  | 56 => ⟨S1344, .i32⟩
  | 57 => ⟨S1344, .i32⟩
  | 58 => ⟨S1344x1, .i32⟩
  | 59 => ⟨S1344x1, .i32⟩
  | 60 => ⟨S1344x2, .i32⟩
  | 61 => ⟨S1344, .i32⟩
  | 62 => ⟨S_, .i32⟩
  | 63 => ⟨S1344, .i32⟩
  | 64 => ⟨S1344, .i1⟩
  | 65 => ⟨S_, .i32⟩
  | 66 => ⟨S1344, .i32⟩
  | 67 => ⟨S1344, .i32⟩
  | 68 => ⟨S1344, .i32⟩
  | 69 => ⟨S1344x1, .i32⟩
  | 70 => ⟨S1344x3, .f32⟩
  | 71 => ⟨S_, .i32⟩
  | 72 => ⟨S1344x1, .i32⟩
  | 73 => ⟨S1344x1, .i1⟩
  | 74 => ⟨S_, .i32⟩
  | 75 => ⟨S1344x1, .i32⟩
  | 76 => ⟨S1344x1, .i32⟩
  | 77 => ⟨S1344x1, .i32⟩
  | 78 => ⟨S1344x1x1, .i32⟩
  | 79 => ⟨S1, .i32⟩
  | 80 => ⟨S_, .i32⟩
  | 81 => ⟨S1344x1x1, .i32⟩
  | 82 => ⟨S1344x1x1, .i1⟩
  | 83 => ⟨S1x1x1, .i32⟩
  | 84 => ⟨S1344x1x1, .i32⟩
  | 85 => ⟨S1344x1x1, .i1⟩
  | 86 => ⟨S1344x1x1, .i1⟩
  | 87 => ⟨S_, .i1⟩
  | 88 => ⟨S1344x1, .i1⟩
  | 89 => ⟨S1344x1, .f32⟩
  | 90 => ⟨S_, .f32⟩
  | 91 => ⟨S1344x1, .f32⟩
  | 92 => ⟨S1344x1, .f32⟩
  | 93 => ⟨S1344x2048x1, .f32⟩
  | 94 => ⟨S1344x2048x1, .f32⟩
  | 95 => ⟨S1344x1x1, .f32⟩
  | 96 => ⟨S1344x2048x1, .f32⟩
  | 97 => ⟨S1344x2048x1, .f32⟩
  | 98 => ⟨S_, .f32⟩
  | 99 => ⟨S448x2048x1, .f32⟩
  | 100 => ⟨S_, .i32⟩
  | 101 => ⟨S1344, .i32⟩
  | 102 => ⟨S1344, .i1⟩
  | 103 => ⟨S_, .i32⟩
  | 104 => ⟨S1344, .i32⟩
  | 105 => ⟨S1344, .i32⟩
  | 106 => ⟨S1344, .i32⟩
  | 107 => ⟨S1344x1, .i32⟩
  | 108 => ⟨S448x2048x1, .f32⟩
  | 109 => ⟨S_, .f32⟩
  | 110 => ⟨S448x2048x1, .f32⟩
  | 111 => ⟨S448x2048x1, .i1⟩
  | 112 => ⟨S_, .f32⟩
  | 113 => ⟨S448x2048x1, .f32⟩
  | 114 => ⟨S448x2048x1, .f32⟩
  | 115 => ⟨S448x2048x1, .f32⟩
  | 116 => ⟨S32x14x2048x1, .f32⟩
  | 117 => ⟨S32x2048x14x1, .f32⟩
  | 118 => ⟨S32x2048x14, .f32⟩
  | _ => ⟨S448x128x768, .f32⟩

abbrev hbmTy (i : Nat) : BufTy := match i / 128 with
  | 0 => hbmTy0_0 i
  | 1 => hbmTy0_1 i
  | _ => ⟨S448x128x768, .f32⟩

abbrev bufTy : (tb : Table) → Fin (tcTables nBuf tb) → BufTy
  | .hbm, ⟨i, _⟩ => hbmTy i
  | _, _ => ⟨S448x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_call0_v0 : Ref sig .tc := ⟨.hbm, 30, rfl⟩
abbrev main_call0_call0_c : Ref sig .tc := ⟨.hbm, 31, rfl⟩
abbrev main_call0_call0_v0 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_c_0 : Ref sig .tc := ⟨.hbm, 36, rfl⟩
abbrev main_v20 : Ref sig .tc := ⟨.hbm, 37, rfl⟩
abbrev main_v21 : Ref sig .tc := ⟨.hbm, 38, rfl⟩
abbrev main_c_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_call1_call0_c : Ref sig .tc := ⟨.hbm, 47, rfl⟩
abbrev main_call1_call0_v0 : Ref sig .tc := ⟨.hbm, 48, rfl⟩
abbrev main_v28 : Ref sig .tc := ⟨.hbm, 49, rfl⟩
abbrev main_c_3 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v29 : Ref sig .tc := ⟨.hbm, 67, rfl⟩
abbrev main_c_4 : Ref sig .tc := ⟨.hbm, 68, rfl⟩
abbrev main_call3_v0 : Ref sig .tc := ⟨.hbm, 69, rfl⟩
abbrev main_call3_c : Ref sig .tc := ⟨.hbm, 70, rfl⟩
abbrev main_call3_v1 : Ref sig .tc := ⟨.hbm, 71, rfl⟩
abbrev main_call3_c_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_1 : Ref sig .tc := ⟨.hbm, 76, rfl⟩
abbrev main_call3_v5 : Ref sig .tc := ⟨.hbm, 77, rfl⟩
abbrev main_call3_v6 : Ref sig .tc := ⟨.hbm, 78, rfl⟩
abbrev main_call3_c_2 : Ref sig .tc := ⟨.hbm, 79, rfl⟩
abbrev main_call3_v7 : Ref sig .tc := ⟨.hbm, 80, rfl⟩
abbrev main_call3_v8 : Ref sig .tc := ⟨.hbm, 81, rfl⟩
abbrev main_call3_c_3 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_v30 : Ref sig .tc := ⟨.hbm, 89, rfl⟩
abbrev main_c_5 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_c : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_0 : Ref sig .tc := ⟨.hbm, 104, rfl⟩
abbrev main_call4_v12 : Ref sig .tc := ⟨.hbm, 105, rfl⟩
abbrev main_call4_v13 : Ref sig .tc := ⟨.hbm, 106, rfl⟩
abbrev main_v31 : Ref sig .tc := ⟨.hbm, 107, rfl⟩
abbrev main_c_6 : Ref sig .tc := ⟨.hbm, 108, rfl⟩
abbrev main_call5_v0 : Ref sig .tc := ⟨.hbm, 109, rfl⟩
abbrev main_call5_c : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_c_1 : Ref sig .tc := ⟨.hbm, 116, rfl⟩
abbrev main_call5_v5 : Ref sig .tc := ⟨.hbm, 117, rfl⟩
abbrev main_call5_v6 : Ref sig .tc := ⟨.hbm, 118, rfl⟩
abbrev main_call5_c_2 : Ref sig .tc := ⟨.hbm, 119, rfl⟩
abbrev main_call5_v7 : Ref sig .tc := ⟨.hbm, 120, rfl⟩
abbrev main_call5_v8 : Ref sig .tc := ⟨.hbm, 121, rfl⟩
abbrev main_call5_c_3 : Ref sig .tc := ⟨.hbm, 122, rfl⟩
abbrev main_call5_v9 : Ref sig .tc := ⟨.hbm, 123, rfl⟩
abbrev main_call5_v10 : Ref sig .tc := ⟨.hbm, 124, rfl⟩
abbrev main_call5_v11 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_v32 : Ref sig .tc := ⟨.hbm, 129, rfl⟩
abbrev main_v33 : Ref sig .tc := ⟨.hbm, 130, rfl⟩
abbrev main_c_7 : Ref sig .tc := ⟨.hbm, 131, rfl⟩
abbrev main_v34 : Ref sig .tc := ⟨.hbm, 132, rfl⟩
abbrev main_v35 : Ref sig .tc := ⟨.hbm, 133, rfl⟩
abbrev main_v36 : Ref sig .tc := ⟨.hbm, 134, rfl⟩
abbrev main_v37 : Ref sig .tc := ⟨.hbm, 135, rfl⟩
abbrev main_v38 : Ref sig .tc := ⟨.hbm, 136, rfl⟩
abbrev main_c_8 : Ref sig .tc := ⟨.hbm, 137, rfl⟩
abbrev main_call6_v0 : Ref sig .tc := ⟨.hbm, 138, rfl⟩
abbrev main_call6_v1 : Ref sig .tc := ⟨.hbm, 139, rfl⟩
abbrev main_v39 : Ref sig .tc := ⟨.hbm, 140, rfl⟩
abbrev main_c_9 : Ref sig .tc := ⟨.hbm, 141, rfl⟩
abbrev main_call7_v0 : Ref sig .tc := ⟨.hbm, 142, rfl⟩
abbrev main_call7_v1 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_call8_v0 : Ref sig .tc := ⟨.hbm, 148, rfl⟩
abbrev main_call8_v1_0 : Ref sig .tc := ⟨.hbm, 149, rfl⟩
abbrev main_v44 : Ref sig .tc := ⟨.hbm, 150, rfl⟩
abbrev main_call9_c : Ref sig .tc := ⟨.hbm, 151, rfl⟩
abbrev main_call9_v0 : Ref sig .tc := ⟨.hbm, 152, rfl⟩
abbrev main_call9_v1 : Ref sig .tc := ⟨.hbm, 153, rfl⟩
abbrev main_call9_c_0 : Ref sig .tc := ⟨.hbm, 154, rfl⟩
abbrev main_call9_v2 : Ref sig .tc := ⟨.hbm, 155, rfl⟩
abbrev main_call9_v3 : Ref sig .tc := ⟨.hbm, 156, rfl⟩
abbrev main_call9_v4 : Ref sig .tc := ⟨.hbm, 157, rfl⟩
abbrev main_call9_v5 : Ref sig .tc := ⟨.hbm, 158, rfl⟩
abbrev main_call9_c_1 : Ref sig .tc := ⟨.hbm, 159, rfl⟩
abbrev main_call9_c_2 : Ref sig .tc := ⟨.hbm, 160, rfl⟩
abbrev main_call9_v6 : Ref sig .tc := ⟨.hbm, 161, rfl⟩
abbrev main_call9_v7 : Ref sig .tc := ⟨.hbm, 162, rfl⟩
abbrev main_call9_v8 : Ref sig .tc := ⟨.hbm, 163, rfl⟩
abbrev main_call9_v9 : Ref sig .tc := ⟨.hbm, 164, rfl⟩
abbrev main_call9_v10 : Ref sig .tc := ⟨.hbm, 165, rfl⟩
abbrev main_call9_v11 : Ref sig .tc := ⟨.hbm, 166, rfl⟩
abbrev main_call9_c_3 : Ref sig .tc := ⟨.hbm, 167, rfl⟩
abbrev main_call9_v12 : Ref sig .tc := ⟨.hbm, 168, rfl⟩
abbrev main_call9_v13 : Ref sig .tc := ⟨.hbm, 169, rfl⟩
abbrev main_call9_c_4 : Ref sig .tc := ⟨.hbm, 170, rfl⟩
abbrev main_call9_v14 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_c_10 : Ref sig .tc := ⟨.hbm, 176, rfl⟩
abbrev main_v49 : Ref sig .tc := ⟨.hbm, 177, rfl⟩
abbrev main_v50 : Ref sig .tc := ⟨.hbm, 178, rfl⟩
abbrev main_c_11 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_c_12 : Ref sig .tc := ⟨.hbm, 183, rfl⟩
abbrev main_v54 : Ref sig .tc := ⟨.hbm, 184, rfl⟩
abbrev main_v55 : Ref sig .tc := ⟨.hbm, 185, rfl⟩
abbrev main_v56 : Ref sig .tc := ⟨.hbm, 186, rfl⟩
abbrev main_v57 : Ref sig .tc := ⟨.hbm, 187, rfl⟩
abbrev main_v58 : Ref sig .tc := ⟨.hbm, 188, rfl⟩
abbrev main_v59 : Ref sig .tc := ⟨.hbm, 189, rfl⟩
abbrev main_c_13 : Ref sig .tc := ⟨.hbm, 190, rfl⟩
abbrev main_v60 : Ref sig .tc := ⟨.hbm, 191, rfl⟩
abbrev main_v61 : Ref sig .tc := ⟨.hbm, 192, rfl⟩
abbrev main_c_14 : Ref sig .tc := ⟨.hbm, 193, rfl⟩
abbrev main_v62 : Ref sig .tc := ⟨.hbm, 194, rfl⟩
abbrev main_v63 : Ref sig .tc := ⟨.hbm, 195, rfl⟩
abbrev main_v64 : Ref sig .tc := ⟨.hbm, 196, rfl⟩
abbrev main_v65 : Ref sig .tc := ⟨.hbm, 197, rfl⟩
abbrev main_v66 : Ref sig .tc := ⟨.hbm, 198, rfl⟩
abbrev main_call10_c : Ref sig .tc := ⟨.hbm, 199, rfl⟩
abbrev main_call10_v0 : Ref sig .tc := ⟨.hbm, 200, rfl⟩
abbrev main_call10_v1 : Ref sig .tc := ⟨.hbm, 201, rfl⟩
abbrev main_call10_c_0 : Ref sig .tc := ⟨.hbm, 202, rfl⟩
abbrev main_call10_v2 : Ref sig .tc := ⟨.hbm, 203, rfl⟩
abbrev main_call10_v3 : Ref sig .tc := ⟨.hbm, 204, rfl⟩
abbrev main_call10_v4 : Ref sig .tc := ⟨.hbm, 205, rfl⟩
abbrev main_call10_v5 : Ref sig .tc := ⟨.hbm, 206, rfl⟩
abbrev main_call10_c_1 : Ref sig .tc := ⟨.hbm, 207, rfl⟩
abbrev main_call10_c_2 : Ref sig .tc := ⟨.hbm, 208, rfl⟩
abbrev main_call10_v6 : Ref sig .tc := ⟨.hbm, 209, rfl⟩
abbrev main_call10_v7 : Ref sig .tc := ⟨.hbm, 210, rfl⟩
abbrev main_call10_v8 : Ref sig .tc := ⟨.hbm, 211, rfl⟩
abbrev main_call10_v9 : Ref sig .tc := ⟨.hbm, 212, rfl⟩
abbrev main_call10_v10 : Ref sig .tc := ⟨.hbm, 213, rfl⟩
abbrev main_call10_v11 : Ref sig .tc := ⟨.hbm, 214, rfl⟩
abbrev main_call10_c_3 : Ref sig .tc := ⟨.hbm, 215, rfl⟩
abbrev main_call10_v12 : Ref sig .tc := ⟨.hbm, 216, rfl⟩
abbrev main_call10_v13 : Ref sig .tc := ⟨.hbm, 217, rfl⟩
abbrev main_call10_cst : Ref sig .tc := ⟨.hbm, 218, rfl⟩
abbrev main_call10_v14 : Ref sig .tc := ⟨.hbm, 219, rfl⟩
abbrev main_v67 : Ref sig .tc := ⟨.hbm, 220, rfl⟩
abbrev main_v68 : Ref sig .tc := ⟨.hbm, 221, rfl⟩
abbrev main_v69 : Ref sig .tc := ⟨.hbm, 222, rfl⟩
abbrev main_v70 : Ref sig .tc := ⟨.hbm, 223, rfl⟩
abbrev main_v71 : Ref sig .tc := ⟨.hbm, 224, rfl⟩
abbrev main_v72 : Ref sig .tc := ⟨.hbm, 225, rfl⟩
abbrev main_cst_15 : Ref sig .tc := ⟨.hbm, 226, rfl⟩
abbrev main_v73 : Ref sig .tc := ⟨.hbm, 227, rfl⟩
abbrev main_c_16 : Ref sig .tc := ⟨.hbm, 228, rfl⟩
abbrev main_v74 : Ref sig .tc := ⟨.hbm, 229, rfl⟩
abbrev main_v75 : Ref sig .tc := ⟨.hbm, 230, rfl⟩
abbrev main_c_17 : Ref sig .tc := ⟨.hbm, 231, rfl⟩
abbrev main_v76 : Ref sig .tc := ⟨.hbm, 232, rfl⟩
abbrev main_v77 : Ref sig .tc := ⟨.hbm, 233, rfl⟩
abbrev main_v78 : Ref sig .tc := ⟨.hbm, 234, rfl⟩
abbrev main_v79 : Ref sig .tc := ⟨.hbm, 235, rfl⟩
abbrev main_v80 : Ref sig .tc := ⟨.hbm, 236, rfl⟩
abbrev main_cst_18 : Ref sig .tc := ⟨.hbm, 237, rfl⟩
abbrev main_v81 : Ref sig .tc := ⟨.hbm, 238, rfl⟩
abbrev main_v82 : Ref sig .tc := ⟨.hbm, 239, rfl⟩
abbrev main_cst_19 : Ref sig .tc := ⟨.hbm, 240, rfl⟩
abbrev main_call11_v0 : Ref sig .tc := ⟨.hbm, 241, rfl⟩
abbrev main_v83 : Ref sig .tc := ⟨.hbm, 242, rfl⟩
abbrev main_v84 : Ref sig .tc := ⟨.hbm, 243, rfl⟩
abbrev main_v85 : Ref sig .tc := ⟨.hbm, 244, rfl⟩
abbrev main_v86 : Ref sig .tc := ⟨.hbm, 245, rfl⟩
abbrev main_v87 : Ref sig .tc := ⟨.hbm, 246, rfl⟩

abbrev nD : Nat := 1
abbrev τ : Topo := Topo.v7x

variable {F : FTy → Type} [FloatOps F]
-- ==== Proof.Block.lean ====
module

public import proofs.«01_k».proof.Proof.Gen.KernelIdeal.Skeleton
public import Idealize.ShloMosaic.Lib.PointwiseCore
public import Idealize.ShloMosaic.Lib.Writes

@[expose] public section

set_option maxRecDepth 16384

noncomputable section

namespace Cert.KernelIdeal.Heads

open Cert.KernelIdeal Cert.KernelIdeal.Gen
open Idealize.ShloMosaic

variable {F : FTy → Type} [FloatOps F]

/-- The scratch after the body's three stores: lanes below 16 hold the first product. -/
theorem read_y0 (M : Memref sig .tc .vmem S2048x128 .f32) (f : M.view.ty.Contents (Elt F)) (p0 : FVec F S2048x16 .f32) (p1 : FVec F S1024x32 .f32)
    (p2 : FVec F S512x64 .f32) (a : Fin 2048) (l : Fin 128) (hl : l.val < 16) :
    M.view.read (Elt F) (M.view.writes (Elt F) f [⟨Rect.unit (s := S2048x128) ![0, 48] S512x64.size inb_S2048x128_S512x64_0_48, p2⟩,
      ⟨Rect.unit (s := S2048x128) ![0, 16] S1024x32.size inb_S2048x128_S1024x32_0_16, p1⟩,
      ⟨Rect.unit (s := S2048x128) ![0, 0] S2048x16.size inb_S2048x128_S2048x16_0_0, p0⟩]) (ix2 a l) = p0 (ix2 a ⟨l.val, hl⟩) := by
  rw [View.read_writes_cons_miss_of_axis _ _ _ _ (ix2 a l) 1 48 64 rfl rfl rfl (Or.inl (by show l.val < 48; omega)),
    View.read_writes_cons_miss_of_axis _ _ _ _ (ix2 a l) 1 16 32 rfl rfl rfl (Or.inl hl),
    View.read_writes_cons_hit_of_coords _ _ _ _ _ (ix2 a ⟨l.val, hl⟩)]
  intro b
  fin_cases b
  · show a.val = 0 + 1 * a.val; omega
  · show l.val = 0 + 1 * l.val; omega

/-- Its lanes from 16 to 47 hold, in the first 1024 rows, the second product. -/
theorem read_y1 (M : Memref sig .tc .vmem S2048x128 .f32) (f : M.view.ty.Contents (Elt F)) (p0 : FVec F S2048x16 .f32) (p1 : FVec F S1024x32 .f32)
    (p2 : FVec F S512x64 .f32) (a : Fin 2048) (ha : a.val < 1024) (l : Fin 128) (hl : 16 ≤ l.val) (hl' : l.val < 48) :
    M.view.read (Elt F) (M.view.writes (Elt F) f [⟨Rect.unit (s := S2048x128) ![0, 48] S512x64.size inb_S2048x128_S512x64_0_48, p2⟩,
      ⟨Rect.unit (s := S2048x128) ![0, 16] S1024x32.size inb_S2048x128_S1024x32_0_16, p1⟩,
      ⟨Rect.unit (s := S2048x128) ![0, 0] S2048x16.size inb_S2048x128_S2048x16_0_0, p0⟩]) (ix2 a l)
      = p1 (ix2 ⟨a.val, ha⟩ ⟨l.val - 16, by omega⟩) := by
  rw [View.read_writes_cons_miss_of_axis _ _ _ _ (ix2 a l) 1 48 64 rfl rfl rfl (Or.inl hl'),
    View.read_writes_cons_hit_of_coords _ _ _ _ _ (ix2 (⟨a.val, ha⟩ : Fin 1024) (⟨l.val - 16, by omega⟩ : Fin 32))]
  intro b
  fin_cases b
  · show a.val = 0 + 1 * a.val; omega
  · show l.val = 16 + 1 * (l.val - 16); omega

/-- Its lanes from 48 to 111 hold, in the first 512 rows, the third product. -/
theorem read_y2 (M : Memref sig .tc .vmem S2048x128 .f32) (f : M.view.ty.Contents (Elt F)) (p0 : FVec F S2048x16 .f32) (p1 : FVec F S1024x32 .f32)
    (p2 : FVec F S512x64 .f32) (a : Fin 2048) (ha : a.val < 512) (l : Fin 128) (hl : 48 ≤ l.val) (hl' : l.val < 112) :
    M.view.read (Elt F) (M.view.writes (Elt F) f [⟨Rect.unit (s := S2048x128) ![0, 48] S512x64.size inb_S2048x128_S512x64_0_48, p2⟩,
      ⟨Rect.unit (s := S2048x128) ![0, 16] S1024x32.size inb_S2048x128_S1024x32_0_16, p1⟩,
      ⟨Rect.unit (s := S2048x128) ![0, 0] S2048x16.size inb_S2048x128_S2048x16_0_0, p0⟩]) (ix2 a l)
      = p2 (ix2 ⟨a.val, ha⟩ ⟨l.val - 48, by omega⟩) := by
  rw [View.read_writes_cons_hit_of_coords _ _ _ _ _ (ix2 (⟨a.val, ha⟩ : Fin 512) (⟨l.val - 48, by omega⟩ : Fin 64))]
  intro b
  fin_cases b
  · show a.val = 0 + 1 * a.val; omega
  · show l.val = 48 + 1 * (l.val - 48); omega

/-- One head at one element: the exponential of its product `y` plus its bias `b` plus the logarithm of its gate `g`. -/
def head (y b g : F .f32) : F .f32 := FloatOps.exp (FloatOps.addf (FloatOps.addf y b) (FloatOps.log g))

/-- The output block at row `r` and lane `l`, from the three products and the gates and tiled biases: the three heads added, an exact
    zero replaced by the constant, and the logarithm. Row `r` of head `e` takes its lanes from as many consecutive rows of the product
    as there are patches in 128 lanes. -/
def blockAt (y0 : FVec F S2048x16 .f32) (y1 : FVec F S1024x32 .f32) (y2 : FVec F S512x64 .f32) (g : Vec F S16x3 .f32)
    (b0 b1 b2 : Vec F S1x128 .f32) (r : Fin 256) (l : Fin 128) : F .f32 :=
  let acc := FloatOps.addf
    (FloatOps.addf (head (y0 (ix2 ⟨8 * r.val + l.val / 16, by omega⟩ ⟨l.val % 16, by omega⟩)) (b0 (ix2 0 l)) (g (ix2 ⟨r.val / 16, by omega⟩ 0)))
      (head (y1 (ix2 ⟨4 * r.val + l.val / 32, by omega⟩ ⟨l.val % 32, by omega⟩)) (b1 (ix2 0 l)) (g (ix2 ⟨r.val / 16, by omega⟩ 1))))
    (head (y2 (ix2 ⟨2 * r.val + l.val / 64, by omega⟩ ⟨l.val % 64, by omega⟩)) (b2 (ix2 0 l)) (g (ix2 ⟨r.val / 16, by omega⟩ 2)))
  FloatOps.log (Scalar.select (FloatOps.cmpf .oeq acc (FloatOps.ofBits .f32 0x00000000#32)) (FloatOps.ofBits .f32 0x25800000#32) acc)

/-- The first head's tower of loads, slices and a concatenation, at an element, from what each strided load holds in the head's lanes. -/
theorem pay7_at (y0 : FVec F S2048x16 .f32) (g : Vec F S16x3 .f32) (v0 v1 v2 v3 v4 v5 v6 v7 : Vec F S256x128 .f32) (b0 : Vec F S1x128 .f32)
    (h0 : ∀ (r : Fin 256) (l : Fin 128) (hl : l.val < 16), v0 (ix2 r l) = y0 (ix2 ⟨8 * r.val + 0, by omega⟩ ⟨l.val, hl⟩))
    (h1 : ∀ (r : Fin 256) (l : Fin 128) (hl : l.val < 16), v1 (ix2 r l) = y0 (ix2 ⟨8 * r.val + 1, by omega⟩ ⟨l.val, hl⟩))
    (h2 : ∀ (r : Fin 256) (l : Fin 128) (hl : l.val < 16), v2 (ix2 r l) = y0 (ix2 ⟨8 * r.val + 2, by omega⟩ ⟨l.val, hl⟩))
    (h3 : ∀ (r : Fin 256) (l : Fin 128) (hl : l.val < 16), v3 (ix2 r l) = y0 (ix2 ⟨8 * r.val + 3, by omega⟩ ⟨l.val, hl⟩))
    (h4 : ∀ (r : Fin 256) (l : Fin 128) (hl : l.val < 16), v4 (ix2 r l) = y0 (ix2 ⟨8 * r.val + 4, by omega⟩ ⟨l.val, hl⟩))
    (h5 : ∀ (r : Fin 256) (l : Fin 128) (hl : l.val < 16), v5 (ix2 r l) = y0 (ix2 ⟨8 * r.val + 5, by omega⟩ ⟨l.val, hl⟩))
    (h6 : ∀ (r : Fin 256) (l : Fin 128) (hl : l.val < 16), v6 (ix2 r l) = y0 (ix2 ⟨8 * r.val + 6, by omega⟩ ⟨l.val, hl⟩))
    (h7 : ∀ (r : Fin 256) (l : Fin 128) (hl : l.val < 16), v7 (ix2 r l) = y0 (ix2 ⟨8 * r.val + 7, by omega⟩ ⟨l.val, hl⟩))
    (r : Fin 256) (l : Fin 128) :
    k0_pay7 (k0_pay5 g) v0 v1 v2 v3 v4 v5 v6 v7 b0 (ix2 r l)
      = head (y0 (ix2 ⟨8 * r.val + l.val / 16, by omega⟩ ⟨l.val % 16, by omega⟩)) (b0 (ix2 0 l)) (g (ix2 ⟨r.val / 16, by omega⟩ 0)) := by
  pointwise [k0_pay7, k0_pay6, k0_pay5]
  unfold head
  congr 3
  repeat' split
  all_goals first
    | (rw [h0 r _ (by (try dsimp only); omega)]; congr 2 <;> (apply Fin.ext; (try dsimp only); omega))
    | (rw [h1 r _ (by (try dsimp only); omega)]; congr 2 <;> (apply Fin.ext; (try dsimp only); omega))
    | (rw [h2 r _ (by (try dsimp only); omega)]; congr 2 <;> (apply Fin.ext; (try dsimp only); omega))
    | (rw [h3 r _ (by (try dsimp only); omega)]; congr 2 <;> (apply Fin.ext; (try dsimp only); omega))
    | (rw [h4 r _ (by (try dsimp only); omega)]; congr 2 <;> (apply Fin.ext; (try dsimp only); omega))
    | (rw [h5 r _ (by (try dsimp only); omega)]; congr 2 <;> (apply Fin.ext; (try dsimp only); omega))
    | (rw [h6 r _ (by (try dsimp only); omega)]; congr 2 <;> (apply Fin.ext; (try dsimp only); omega))
    | (rw [h7 r _ (by (try dsimp only); omega)]; congr 2 <;> (apply Fin.ext; (try dsimp only); omega))

/-- The block stored, at an element, from what each strided load holds in its head's lanes. -/
theorem pay1_at (y0 : FVec F S2048x16 .f32) (y1 : FVec F S1024x32 .f32) (y2 : FVec F S512x64 .f32) (g : Vec F S16x3 .f32)
    (v0 v1 v2 v3 v4 v5 v6 v7 v10 v11 v12 v13 v20 v21 : Vec F S256x128 .f32) (b0 b1 b2 : Vec F S1x128 .f32)
    (h0 : ∀ (r : Fin 256) (l : Fin 128) (hl : l.val < 16), v0 (ix2 r l) = y0 (ix2 ⟨8 * r.val + 0, by omega⟩ ⟨l.val, hl⟩))
    (h1 : ∀ (r : Fin 256) (l : Fin 128) (hl : l.val < 16), v1 (ix2 r l) = y0 (ix2 ⟨8 * r.val + 1, by omega⟩ ⟨l.val, hl⟩))
    (h2 : ∀ (r : Fin 256) (l : Fin 128) (hl : l.val < 16), v2 (ix2 r l) = y0 (ix2 ⟨8 * r.val + 2, by omega⟩ ⟨l.val, hl⟩))
    (h3 : ∀ (r : Fin 256) (l : Fin 128) (hl : l.val < 16), v3 (ix2 r l) = y0 (ix2 ⟨8 * r.val + 3, by omega⟩ ⟨l.val, hl⟩))
    (h4 : ∀ (r : Fin 256) (l : Fin 128) (hl : l.val < 16), v4 (ix2 r l) = y0 (ix2 ⟨8 * r.val + 4, by omega⟩ ⟨l.val, hl⟩))
    (h5 : ∀ (r : Fin 256) (l : Fin 128) (hl : l.val < 16), v5 (ix2 r l) = y0 (ix2 ⟨8 * r.val + 5, by omega⟩ ⟨l.val, hl⟩))
    (h6 : ∀ (r : Fin 256) (l : Fin 128) (hl : l.val < 16), v6 (ix2 r l) = y0 (ix2 ⟨8 * r.val + 6, by omega⟩ ⟨l.val, hl⟩))
    (h7 : ∀ (r : Fin 256) (l : Fin 128) (hl : l.val < 16), v7 (ix2 r l) = y0 (ix2 ⟨8 * r.val + 7, by omega⟩ ⟨l.val, hl⟩))
    (h10 : ∀ (r : Fin 256) (l : Fin 128) (_ : 16 ≤ l.val) (hl : l.val < 48), v10 (ix2 r l) = y1 (ix2 ⟨4 * r.val + 0, by omega⟩ ⟨l.val - 16, by omega⟩))
    (h11 : ∀ (r : Fin 256) (l : Fin 128) (_ : 16 ≤ l.val) (hl : l.val < 48), v11 (ix2 r l) = y1 (ix2 ⟨4 * r.val + 1, by omega⟩ ⟨l.val - 16, by omega⟩))
    (h12 : ∀ (r : Fin 256) (l : Fin 128) (_ : 16 ≤ l.val) (hl : l.val < 48), v12 (ix2 r l) = y1 (ix2 ⟨4 * r.val + 2, by omega⟩ ⟨l.val - 16, by omega⟩))
    (h13 : ∀ (r : Fin 256) (l : Fin 128) (_ : 16 ≤ l.val) (hl : l.val < 48), v13 (ix2 r l) = y1 (ix2 ⟨4 * r.val + 3, by omega⟩ ⟨l.val - 16, by omega⟩))
    (h20 : ∀ (r : Fin 256) (l : Fin 128) (_ : 48 ≤ l.val) (hl : l.val < 112), v20 (ix2 r l) = y2 (ix2 ⟨2 * r.val + 0, by omega⟩ ⟨l.val - 48, by omega⟩))
    (h21 : ∀ (r : Fin 256) (l : Fin 128) (_ : 48 ≤ l.val) (hl : l.val < 112), v21 (ix2 r l) = y2 (ix2 ⟨2 * r.val + 1, by omega⟩ ⟨l.val - 48, by omega⟩))
    (r : Fin 256) (l : Fin 128) :
    k0_pay1 (k0_pay6 (k0_pay5 g)) (k0_pay7 (k0_pay5 g) v0 v1 v2 v3 v4 v5 v6 v7 b0) (k0_pay8 v10) (k0_pay9 v11) (k0_pay10 v12) v13 b1 v20 v21 b2
      (ix2 r l) = blockAt y0 y1 y2 g b0 b1 b2 r l := by
  have e0 := pay7_at y0 g v0 v1 v2 v3 v4 v5 v6 v7 b0 h0 h1 h2 h3 h4 h5 h6 h7 r l
  generalize k0_pay7 (k0_pay5 g) v0 v1 v2 v3 v4 v5 v6 v7 b0 = z0 at e0 ⊢
  pointwise [k0_pay1, k0_pay5, k0_pay6, k0_pay8, k0_pay9, k0_pay10]
  have e1 : (if h : l.val < 32 then v10 (ix2 r ⟨16 + l.val, by omega⟩) else if h : l.val - 32 < 32 then v11 (ix2 r ⟨16 + (l.val - 32), by omega⟩)
      else if h : l.val - 32 - 32 < 32 then v12 (ix2 r ⟨16 + (l.val - 32 - 32), by omega⟩) else v13 (ix2 r ⟨16 + (l.val - 32 - 32 - 32), by omega⟩))
      = y1 (ix2 ⟨4 * r.val + l.val / 32, by omega⟩ ⟨l.val % 32, by omega⟩) := by
    repeat' split
    all_goals first
      | (rw [h10 r _ (by (try dsimp only); omega) (by (try dsimp only); omega)]; congr 2 <;> (apply Fin.ext; (try dsimp only); omega))
      | (rw [h11 r _ (by (try dsimp only); omega) (by (try dsimp only); omega)]; congr 2 <;> (apply Fin.ext; (try dsimp only); omega))
      | (rw [h12 r _ (by (try dsimp only); omega) (by (try dsimp only); omega)]; congr 2 <;> (apply Fin.ext; (try dsimp only); omega))
      | (rw [h13 r _ (by (try dsimp only); omega) (by (try dsimp only); omega)]; congr 2 <;> (apply Fin.ext; (try dsimp only); omega))
  have e2 : (if h : l.val < 64 then v20 (ix2 r ⟨48 + l.val, by omega⟩) else v21 (ix2 r ⟨48 + (l.val - 64), by omega⟩))
      = y2 (ix2 ⟨2 * r.val + l.val / 64, by omega⟩ ⟨l.val % 64, by omega⟩) := by
    repeat' split
    all_goals first
      | (rw [h20 r _ (by (try dsimp only); omega) (by (try dsimp only); omega)]; congr 2 <;> (apply Fin.ext; (try dsimp only); omega))
      | (rw [h21 r _ (by (try dsimp only); omega) (by (try dsimp only); omega)]; congr 2 <;> (apply Fin.ext; (try dsimp only); omega))
  rw [e1, e2, e0]
  rfl

/-- The block the body stores, from its ten input blocks: element by element, and free of what the scratch held before. -/
def blockOut (x0 : Vec F S16x128x768 .f32) (x1 : Vec F S16x64x768 .f32) (x2 : Vec F S16x32x768 .f32) (x3 : Vec F S16x3 .f32)
    (x4 : Vec F S16x768 .f32) (x5 : Vec F S32x768 .f32) (x6 : Vec F S64x768 .f32) (x7 x8 x9 : Vec F S1x128 .f32) : Vec F S256x128 .f32 :=
  fun j => blockAt (k0_pay2 x0 x4) (k0_pay3 x1 x5) (k0_pay4 x2 x6) x3 x7 x8 x9 (j 0) (j 1)

end Cert.KernelIdeal.Heads

end
-- ==== Proof.Body.lean ====
module

public import proofs.«01_k».proof.Proof.Block
public import proofs.«01_k».proof.Proof.Gen.KernelIdeal.Frame
public import Idealize.ShloMosaic.Lib.Exec
public import Idealize.ShloMosaic.Lib.WholeRead
public import Idealize.ShloMosaic.Lib.Tactic

@[expose] public section

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load of the whole of a memref of rank 2 that reads `X` is `X`. -/
theorem load2 {a b : ℕ} (M : Memref sig .tc .vmem ⟨2, ![a, b]⟩ .f32) (h : M.IsWhole) (X : Vec F ⟨2, ![a, b]⟩ .f32)
    (inb : ∀ k, (![0, 0] : Fin 2 → ℕ) k + (![a, b] : Fin 2 → ℕ) k ≤ (![a, b] : Fin 2 → ℕ) k) :
    View.readAt (Elt F) M.view (Rect.unit (s := ⟨2, ![a, b]⟩) ![0, 0] ![a, b] inb).toLoadRect (h.unread X) = X := by
  funext x
  rw [h.readAt_unread]
  refine congrArg X (funext fun k => Fin.ext ?_)
  fin_cases k
  · show 0 + 1 * (x 0).val = (x 0).val; omega
  · show 0 + 1 * (x 1).val = (x 1).val; omega

/-- A load of the whole of a memref of rank 3 that reads `X` is `X`. -/
theorem load3 {a b d : ℕ} (M : Memref sig .tc .vmem ⟨3, ![a, b, d]⟩ .f32) (h : M.IsWhole) (X : Vec F ⟨3, ![a, b, d]⟩ .f32)
    (inb : ∀ k, (![0, 0, 0] : Fin 3 → ℕ) k + (![a, b, d] : Fin 3 → ℕ) k ≤ (![a, b, d] : Fin 3 → ℕ) k) :
    View.readAt (Elt F) M.view (Rect.unit (s := ⟨3, ![a, b, d]⟩) ![0, 0, 0] ![a, b, d] inb).toLoadRect (h.unread X) = X := by
  funext x
  rw [h.readAt_unread]
  refine congrArg X (funext fun k => Fin.ext ?_)
  fin_cases k
  · show 0 + 1 * (x 0).val = (x 0).val; omega
  · show 0 + 1 * (x 1).val = (x 1).val; omega
  · show 0 + 1 * (x 2).val = (x 2).val; omega

/-- A strided load takes as its row `r` row `k + n r`, lanes unchanged. -/
theorem strided_idx (k n : ℕ) (inb : ∀ a, S256x128.size a = 0 ∨ (![k, 0] : Fin 2 → ℕ) a + (![n, 1] : Fin 2 → ℕ) a * (S256x128.size a - 1) < S2048x128.size a)
    (r : Fin 256) (l : Fin 128) (h : n * r.val + k < 2048) :
    (⟨![k, 0], S256x128.size, ![n, 1], inb⟩ : LoadRect S2048x128).idx (ix2 r l) = ix2 ⟨n * r.val + k, h⟩ l := by
  funext a
  apply Fin.ext
  fin_cases a
  · show k + n * r.val = n * r.val + k; omega
  · show 0 + 1 * l.val = l.val; omega

/-- The load of rows `k`, `k + 8`, … of the scratch, in the lanes of product 0: that product's rows. -/
theorem strided0 (M : Memref sig .tc .vmem S2048x128 .f32) (f : M.view.ty.Contents (Elt F)) (p0 : FVec F S2048x16 .f32) (p1 : FVec F S1024x32 .f32)
    (p2 : FVec F S512x64 .f32) (k : ℕ) (hk : k < 8)
    (inb : ∀ a, S256x128.size a = 0 ∨ (![k, 0] : Fin 2 → ℕ) a + (![8, 1] : Fin 2 → ℕ) a * (S256x128.size a - 1) < S2048x128.size a)
    (r : Fin 256) (l : Fin 128) (h2 : l.val < 16) :
    View.readAt (Elt F) M.view (⟨![k, 0], S256x128.size, ![8, 1], inb⟩ : LoadRect S2048x128)
      (M.view.writes (Elt F) f [⟨Rect.unit (s := S2048x128) ![0, 48] S512x64.size inb_S2048x128_S512x64_0_48, p2⟩,
      ⟨Rect.unit (s := S2048x128) ![0, 16] S1024x32.size inb_S2048x128_S1024x32_0_16, p1⟩,
      ⟨Rect.unit (s := S2048x128) ![0, 0] S2048x16.size inb_S2048x128_S2048x16_0_0, p0⟩]) (ix2 r l)
      = p0 (ix2 ⟨8 * r.val + k, by omega⟩ ⟨l.val, h2⟩) := by
  rw [View.readAt_apply, strided_idx k 8 inb r l (by omega)]
  exact read_y0 _ _ _ _ _ _ _ h2

/-- The load of rows `k`, `k + 4`, … of the scratch, in the lanes of product 1: that product's rows. -/
theorem strided1 (M : Memref sig .tc .vmem S2048x128 .f32) (f : M.view.ty.Contents (Elt F)) (p0 : FVec F S2048x16 .f32) (p1 : FVec F S1024x32 .f32)
    (p2 : FVec F S512x64 .f32) (k : ℕ) (hk : k < 4)
    (inb : ∀ a, S256x128.size a = 0 ∨ (![k, 0] : Fin 2 → ℕ) a + (![4, 1] : Fin 2 → ℕ) a * (S256x128.size a - 1) < S2048x128.size a)
    (r : Fin 256) (l : Fin 128) (h1 : 16 ≤ l.val) (h2 : l.val < 48) :
    View.readAt (Elt F) M.view (⟨![k, 0], S256x128.size, ![4, 1], inb⟩ : LoadRect S2048x128)
      (M.view.writes (Elt F) f [⟨Rect.unit (s := S2048x128) ![0, 48] S512x64.size inb_S2048x128_S512x64_0_48, p2⟩,
      ⟨Rect.unit (s := S2048x128) ![0, 16] S1024x32.size inb_S2048x128_S1024x32_0_16, p1⟩,
      ⟨Rect.unit (s := S2048x128) ![0, 0] S2048x16.size inb_S2048x128_S2048x16_0_0, p0⟩]) (ix2 r l)
      = p1 (ix2 ⟨4 * r.val + k, by omega⟩ ⟨l.val - 16, by omega⟩) := by
  rw [View.readAt_apply, strided_idx k 4 inb r l (by omega)]
  exact read_y1 _ _ _ _ _ _ (by show 4 * r.val + k < 1024; omega) _ h1 h2

/-- The load of rows `k`, `k + 2`, … of the scratch, in the lanes of product 2: that product's rows. -/
theorem strided2 (M : Memref sig .tc .vmem S2048x128 .f32) (f : M.view.ty.Contents (Elt F)) (p0 : FVec F S2048x16 .f32) (p1 : FVec F S1024x32 .f32)
    (p2 : FVec F S512x64 .f32) (k : ℕ) (hk : k < 2)
    (inb : ∀ a, S256x128.size a = 0 ∨ (![k, 0] : Fin 2 → ℕ) a + (![2, 1] : Fin 2 → ℕ) a * (S256x128.size a - 1) < S2048x128.size a)
    (r : Fin 256) (l : Fin 128) (h1 : 48 ≤ l.val) (h2 : l.val < 112) :
    View.readAt (Elt F) M.view (⟨![k, 0], S256x128.size, ![2, 1], inb⟩ : LoadRect S2048x128)
      (M.view.writes (Elt F) f [⟨Rect.unit (s := S2048x128) ![0, 48] S512x64.size inb_S2048x128_S512x64_0_48, p2⟩,
      ⟨Rect.unit (s := S2048x128) ![0, 16] S1024x32.size inb_S2048x128_S1024x32_0_16, p1⟩,
      ⟨Rect.unit (s := S2048x128) ![0, 0] S2048x16.size inb_S2048x128_S2048x16_0_0, p0⟩]) (ix2 r l)
      = p2 (ix2 ⟨2 * r.val + k, by omega⟩ ⟨l.val - 48, by omega⟩) := by
  rw [View.readAt_apply, strided_idx k 2 inb r l (by omega)]
  exact read_y2 _ _ _ _ _ _ (by show 2 * r.val + k < 512; omega) _ h1 h2

set_option maxHeartbeats 1000000 in
/-- THE BODY'S TRIPLE: on whole staging buffers, the inputs' at `x0` … `x9`, the output's and the scratch at anything, the body runs
    to the continuation holding the inputs as they were, the output at `blockOut` of the inputs, and the scratch at some contents. -/
theorem body_run (c : Dev nD) (i : grid0.Coords) (arg1 : Memref sig .tc .vmem S16x128x768 .f32) (harg1 : arg1.IsWhole) (arg2 : Memref sig .tc .vmem S16x64x768 .f32) (harg2 : arg2.IsWhole) (arg3 : Memref sig .tc .vmem S16x32x768 .f32) (harg3 : arg3.IsWhole) (arg4 : Memref sig .tc .vmem S16x3 .f32) (harg4 : arg4.IsWhole) (arg5 : Memref sig .tc .vmem S16x768 .f32) (harg5 : arg5.IsWhole) (arg6 : Memref sig .tc .vmem S32x768 .f32) (harg6 : arg6.IsWhole) (arg7 : Memref sig .tc .vmem S64x768 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S256x128 .f32) (harg11 : arg11.IsWhole) (arg12 : Memref sig .tc .vmem S2048x128 .f32) (harg12 : arg12.IsWhole)
    (x0 : Vec F S16x128x768 .f32) (x1 : Vec F S16x64x768 .f32) (x2 : Vec F S16x32x768 .f32) (x3 : Vec F S16x3 .f32) (x4 : Vec F S16x768 .f32) (x5 : Vec F S32x768 .f32) (x6 : Vec F S64x768 .f32) (x7 : Vec F S1x128 .f32) (x8 : Vec F S1x128 .f32) (x9 : Vec F S1x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (blockOut x0 x1 x2 x3 x4 x5 x6 x7 x8 x9) ∗ (∃ d, owns (c : Thread nD τ) arg12 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr
      rotate_left
      · iexact H10
      · ipureintro
        clear hf0 hf1 hf2 hf3 hf4 hf5 hf6 hf7 hf8 hf9
        sl_unfold_run_names
        simp only [load2, load3]
        funext j
        obtain ⟨r, l, rfl⟩ : ∃ (r : Fin 256) (l : Fin 128), j = ix2 r l := ⟨j 0, j 1, eq_ix2 j⟩
        refine (View.read_writes_cons_hit_of_coords _ _ _ _ _ (ix2 r l) (ix2 r l) fun b => ?_).trans ?_
        · fin_cases b
          · show r.val = 0 + 1 * r.val; omega
          · show l.val = 0 + 1 * l.val; omega
        · exact pay1_at (k0_pay2 x0 x4) (k0_pay3 x1 x5) (k0_pay4 x2 x6) x3 _ _ _ _ _ _ _ _ _ _ _ _ _ _ x7 x8 x9
            (strided0 _ _ _ _ _ 0 (by decide) _) (strided0 _ _ _ _ _ 1 (by decide) _) (strided0 _ _ _ _ _ 2 (by decide) _) (strided0 _ _ _ _ _ 3 (by decide) _) (strided0 _ _ _ _ _ 4 (by decide) _) (strided0 _ _ _ _ _ 5 (by decide) _) (strided0 _ _ _ _ _ 6 (by decide) _) (strided0 _ _ _ _ _ 7 (by decide) _)
            (strided1 _ _ _ _ _ 0 (by decide) _) (strided1 _ _ _ _ _ 1 (by decide) _) (strided1 _ _ _ _ _ 2 (by decide) _) (strided1 _ _ _ _ _ 3 (by decide) _)
            (strided2 _ _ _ _ _ 0 (by decide) _) (strided2 _ _ _ _ _ 1 (by decide) _) r l
    iexists _, _; isplitr; swap; · iexact HS0
    ipureintro; rfl

end Cert.KernelIdeal.Heads

end
-- ==== Proof.Launch.lean ====
module

public import proofs.«01_k».proof.Proof.Body
public import Idealize.ShloMosaic.Lib.Claim

@[expose] public section

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output's staging buffer at point `t`. -/
def outAt (c : Dev nD) (t : Fin cfg0.N) : Vec F S256x128 .f32 :=
  blockOut (iblk m c 0 t) (iblk m c 1 t) (iblk m c 2 t) (iblk m c 3 t) (iblk m c 4 t) (iblk m c 5 t) (iblk m c 6 t) (iblk m c 7 t)
    (iblk m c 8 t) (iblk m c 9 t)

/-- The pipeline's proof data on core `c`: the arrays as the region finds them; after the body at `t` each input's buffer still at its
    block and the output's at `outAt`; the invariant holds the scratch at some contents and the generator register; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The invariant read as the scratch at some contents and the generator register. -/
theorem inv_eq (c : Dev nD) :
    (Pipeline.ΦA spec0 c : sProp 𝕄)
      = iprop((∃ d, owns (c : Thread nD τ) (Memref.whole cc0_scratch0) fullShare d) ∗ (∃ r, prngReg c r)) := by
  unfold Pipeline.ΦA
  rw [scopedRest0_eq]; simp only [owns_whole]; try rfl

set_option maxHeartbeats 1200000 in
/-- The body at any point: its triple, with the scratch taken from the invariant and given back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  rw [show (dats m 0 c).Φ t.castSucc = Pipeline.ΦA spec0 c from rfl, inv_eq]
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((body_run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  iintro ⟨H0, H1, H2, H3, H4, H5, H6, H7, H8, H9, H10, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE RUN: from any memory with zero counters every weakly fair execution of the program terminates, and every final state has the
    pipeline's arrays at the contents the blocks make, every other array as the host lines leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Heads

end
-- ==== Proof.Model.lean ====
module

public import Idealize.ShloMosaic.Lib.Pointwise

@[expose] public section

noncomputable section

namespace Cert.Heads

open Idealize.ShloMosaic

abbrev A3 (a b c : ℕ) := (⟨3, ![a, b, c]⟩ : Shape).Idx → EReal
abbrev A2 (a b : ℕ) := (⟨2, ![a, b]⟩ : Shape).Idx → EReal
abbrev A1 (a : ℕ) := (⟨1, ![a]⟩ : Shape).Idx → EReal

/-- The first linear head of token `b` at sequence position `s`: row `s / 16` of the token against row `s % 16` of the weights, plus
    the bias of that row. -/
def lin0 (x : A3 448 128 768) (w : A2 16 768) (v : A1 16) (b : Fin 448) (s : Fin 2048) : EReal :=
  (∑ k : Fin 768, x (ix3 b (⟨s.val / 16, by omega⟩ : Fin 128) k) * w (ix2 (⟨s.val % 16, by omega⟩ : Fin 16) k))
    + v (ix1 (⟨s.val % 16, by omega⟩ : Fin 16))

/-- The second head: patches of 32. -/
def lin1 (x : A3 448 64 768) (w : A2 32 768) (v : A1 32) (b : Fin 448) (s : Fin 2048) : EReal :=
  (∑ k : Fin 768, x (ix3 b (⟨s.val / 32, by omega⟩ : Fin 64) k) * w (ix2 (⟨s.val % 32, by omega⟩ : Fin 32) k))
    + v (ix1 (⟨s.val % 32, by omega⟩ : Fin 32))

/-- The third head: patches of 64. -/
def lin2 (x : A3 448 32 768) (w : A2 64 768) (v : A1 64) (b : Fin 448) (s : Fin 2048) : EReal :=
  (∑ k : Fin 768, x (ix3 b (⟨s.val / 64, by omega⟩ : Fin 32) k) * w (ix2 (⟨s.val % 64, by omega⟩ : Fin 64) k))
    + v (ix1 (⟨s.val % 64, by omega⟩ : Fin 64))

/-- What both programs do with the sum of the three heads: an exact zero is replaced by the constant `0x25800000`, then the logarithm. -/
def finish (a : EReal) : EReal :=
  Ideal.log (Scalar.select (Ideal.cmp .oeq a (Ideal.ofBits .f32 0x00000000#32)) (Ideal.ofBits .f32 0x25800000#32) a)

/-- The kernel's sum: each head's exponential taken after adding the logarithm of its gate. -/
def sumLog (g : A2 448 3) (y0 y1 y2 : EReal) (b : Fin 448) : EReal :=
  Ideal.exp (y0 + Ideal.log (g (ix2 b 0))) + Ideal.exp (y1 + Ideal.log (g (ix2 b 1))) + Ideal.exp (y2 + Ideal.log (g (ix2 b 2)))

/-- The reference's sum: each head's exponential times its gate. -/
def sumMul (g : A2 448 3) (y0 y1 y2 : EReal) (b : Fin 448) : EReal :=
  Ideal.exp y0 * g (ix2 b 0) + Ideal.exp y1 * g (ix2 b 1) + Ideal.exp y2 * g (ix2 b 2)

/-- The exponential of a sum with a positive number's logarithm is the exponential times the number, on the extended reals. -/
theorem exp_add_log (y g : EReal) (hg : 0 < g) : Ideal.exp (y + Ideal.log g) = Ideal.exp y * g := by
  induction g using EReal.rec with
  | bot => exact absurd hg (by simp)
  | top =>
    induction y using EReal.rec with
    | bot => simp
    | top => simp
    | coe y =>
      simp only [Ideal.log_top, EReal.coe_add_top, Ideal.exp_top, Ideal.exp_coe]
      exact (EReal.coe_mul_top_of_pos (Real.exp_pos y)).symm
  | coe g =>
    have h : 0 < g := by exact_mod_cast hg
    induction y using EReal.rec with
    | bot => simp
    | top =>
      rw [Ideal.log_coe, if_neg (not_le.mpr h)]
      simp only [EReal.top_add_coe, Ideal.exp_top]
      exact (EReal.top_mul_coe_of_pos h).symm
    | coe y =>
      rw [Ideal.log_coe, if_neg (not_le.mpr h), ← EReal.coe_add, Ideal.exp_coe, Ideal.exp_coe, ← EReal.coe_mul, Real.exp_add, Real.exp_log h]

/-- With positive gates the two sums agree. -/
theorem sumLog_eq_sumMul (g : A2 448 3) (y0 y1 y2 : EReal) (b : Fin 448) (hg : ∀ (b : Fin 448) (e : Fin 3), 0 < g (ix2 b e)) :
    sumLog g y0 y1 y2 b = sumMul g y0 y1 y2 b := by
  unfold sumLog sumMul
  rw [exp_add_log _ _ (hg b 0), exp_add_log _ _ (hg b 1), exp_add_log _ _ (hg b 2)]

end Cert.Heads

end
-- ==== Proof.Arr.lean ====
module

public import proofs.«01_k».proof.Proof.Launch
public import proofs.«01_k».proof.Proof.Model
public import Idealize.ShloMosaic.Lib.Pointwise
public import Idealize.ShloMosaic.Lib.Pipeline.ValueKit

@[expose] public section

set_option maxRecDepth 16384

noncomputable section

namespace Cert.KernelIdeal.Heads

open Cert.KernelIdeal Cert.KernelIdeal.Gen
open Idealize.ShloMosaic Idealize.ShloMosaic.TcCoe

/-- The first head's product on a block: row `q` of the flattened block, patch lane `p`. -/
theorem prod0_at (x : Vec Ideal S16x128x768 .f32) (w : Vec Ideal S16x768 .f32) (q : Fin 2048) (p : Fin 16) :
    k0_pay2 x w (ix2 q p) = ∑ k : Fin 768, x (ix3 (⟨q.val / 128, by omega⟩ : Fin 16) (⟨q.val % 128, by omega⟩ : Fin 128) k) * w (ix2 p k) := by
  pointwise [k0_pay2]

/-- The second head's product on a block. -/
theorem prod1_at (x : Vec Ideal S16x64x768 .f32) (w : Vec Ideal S32x768 .f32) (q : Fin 1024) (p : Fin 32) :
    k0_pay3 x w (ix2 q p) = ∑ k : Fin 768, x (ix3 (⟨q.val / 64, by omega⟩ : Fin 16) (⟨q.val % 64, by omega⟩ : Fin 64) k) * w (ix2 p k) := by
  pointwise [k0_pay3]

/-- The third head's product on a block. -/
theorem prod2_at (x : Vec Ideal S16x32x768 .f32) (w : Vec Ideal S64x768 .f32) (q : Fin 512) (p : Fin 64) :
    k0_pay4 x w (ix2 q p) = ∑ k : Fin 768, x (ix3 (⟨q.val / 32, by omega⟩ : Fin 16) (⟨q.val % 32, by omega⟩ : Fin 32) k) * w (ix2 p k) := by
  pointwise [k0_pay4]

variable (m : (ℓ : Loc nD τ sig) → Buf (Elt Ideal) ℓ)

/-- Which block of its array each window reads or writes at a point. -/
theorem idx : ∀ t : Fin cfg0.N, win0_0.index t = ![t.val, 0, 0] ∧ win0_1.index t = ![t.val, 0, 0] ∧ win0_2.index t = ![t.val, 0, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] := by
  decide +kernel

/-- Block `t` of the first head's tokens holds tokens `16 t` to `16 t + 15`. -/
theorem blk_x0 (c : Dev nD) (t : Fin cfg0.N) (a : Fin 16) (q : Fin 128) (k : Fin 768) :
    iblk m c 0 t (ix3 a q k) = m ((c : Thread nD τ).loc main_arg0) (ix3 (⟨16 * t.val + a.val, by have : t.val < 28 := t.isLt; omega⟩ : Fin 448) q k) := by
  have ht : t.val < 28 := t.isLt
  rw [← V_main_arg0 m c]
  blk_ext [iblk, idx t]

/-- Each point reads all of the first head's weights. -/
theorem blk_w0 (c : Dev nD) (t : Fin cfg0.N) (p : Fin 16) (k : Fin 768) :
    iblk m c 4 t (ix2 p k) = m ((c : Thread nD τ).loc main_arg5) (ix2 p k) := by
  rw [← V_main_arg5 m c]
  blk_ext [iblk, idx t]

/-- The first head's bias, repeated along the 128 lanes. -/
theorem blk_b0 (c : Dev nD) (t : Fin cfg0.N) (l : Fin 128) :
    iblk m c 7 t (ix2 (0 : Fin 1) l) = m ((c : Thread nD τ).loc main_arg6) (ix1 (⟨l.val % 16, by omega⟩ : Fin 16)) := by
  have h : iblk m c 7 t (ix2 (0 : Fin 1) l) = V m c main_call0_v3 (ix2 (0 : Fin 1) l) := by
    blk_ext [iblk, idx t]
  rw [h]
  show StableHlo.after [hostOps0].flatten (fun b => m (c, b)) (Proc.tc.devRef main_call0_v3) (ix2 0 l) = _
  simp only [List.flatten_cons, List.flatten_nil, List.append_nil, hostOps0, StableHlo.TRef.unary, StableHlo.TRef.toBuf, StableHlo.TRef.ofBuf, cast_eq]
  after_results
  pointwise

/-- Block `t` of the second head's tokens holds tokens `16 t` to `16 t + 15`. -/
theorem blk_x1 (c : Dev nD) (t : Fin cfg0.N) (a : Fin 16) (q : Fin 64) (k : Fin 768) :
    iblk m c 1 t (ix3 a q k) = m ((c : Thread nD τ).loc main_arg1) (ix3 (⟨16 * t.val + a.val, by have : t.val < 28 := t.isLt; omega⟩ : Fin 448) q k) := by
  have ht : t.val < 28 := t.isLt
  rw [← V_main_arg1 m c]
  blk_ext [iblk, idx t]

/-- Each point reads all of the second head's weights. -/
theorem blk_w1 (c : Dev nD) (t : Fin cfg0.N) (p : Fin 32) (k : Fin 768) :
    iblk m c 5 t (ix2 p k) = m ((c : Thread nD τ).loc main_arg7) (ix2 p k) := by
  rw [← V_main_arg7 m c]
  blk_ext [iblk, idx t]

/-- The second head's bias, repeated along the 128 lanes. -/
theorem blk_b1 (c : Dev nD) (t : Fin cfg0.N) (l : Fin 128) :
    iblk m c 8 t (ix2 (0 : Fin 1) l) = m ((c : Thread nD τ).loc main_arg8) (ix1 (⟨l.val % 32, by omega⟩ : Fin 32)) := by
  have h : iblk m c 8 t (ix2 (0 : Fin 1) l) = V m c main_call0_v7 (ix2 (0 : Fin 1) l) := by
    blk_ext [iblk, idx t]
  rw [h]
  show StableHlo.after [hostOps0].flatten (fun b => m (c, b)) (Proc.tc.devRef main_call0_v7) (ix2 0 l) = _
  simp only [List.flatten_cons, List.flatten_nil, List.append_nil, hostOps0, StableHlo.TRef.unary, StableHlo.TRef.toBuf, StableHlo.TRef.ofBuf, cast_eq]
  after_results
  pointwise

/-- Block `t` of the third head's tokens holds tokens `16 t` to `16 t + 15`. -/
theorem blk_x2 (c : Dev nD) (t : Fin cfg0.N) (a : Fin 16) (q : Fin 32) (k : Fin 768) :
    iblk m c 2 t (ix3 a q k) = m ((c : Thread nD τ).loc main_arg2) (ix3 (⟨16 * t.val + a.val, by have : t.val < 28 := t.isLt; omega⟩ : Fin 448) q k) := by
  have ht : t.val < 28 := t.isLt
  rw [← V_main_arg2 m c]
  blk_ext [iblk, idx t]

/-- Each point reads all of the third head's weights. -/
theorem blk_w2 (c : Dev nD) (t : Fin cfg0.N) (p : Fin 64) (k : Fin 768) :
    iblk m c 6 t (ix2 p k) = m ((c : Thread nD τ).loc main_arg9) (ix2 p k) := by
  rw [← V_main_arg9 m c]
  blk_ext [iblk, idx t]

/-- The third head's bias, repeated along the 128 lanes. -/
theorem blk_b2 (c : Dev nD) (t : Fin cfg0.N) (l : Fin 128) :
    iblk m c 9 t (ix2 (0 : Fin 1) l) = m ((c : Thread nD τ).loc main_arg10) (ix1 (⟨l.val % 64, by omega⟩ : Fin 64)) := by
  have h : iblk m c 9 t (ix2 (0 : Fin 1) l) = V m c main_call0_v11 (ix2 (0 : Fin 1) l) := by
    blk_ext [iblk, idx t]
  rw [h]
  show StableHlo.after [hostOps0].flatten (fun b => m (c, b)) (Proc.tc.devRef main_call0_v11) (ix2 0 l) = _
  simp only [List.flatten_cons, List.flatten_nil, List.append_nil, hostOps0, StableHlo.TRef.unary, StableHlo.TRef.toBuf, StableHlo.TRef.ofBuf, cast_eq]
  after_results
  pointwise

/-- Block `t` of the gates holds those of tokens `16 t` to `16 t + 15`. -/
theorem blk_g (c : Dev nD) (t : Fin cfg0.N) (a : Fin 16) (e : Fin 3) :
    iblk m c 3 t (ix2 a e) = m ((c : Thread nD τ).loc main_arg3) (ix2 (⟨16 * t.val + a.val, by have : t.val < 28 := t.isLt; omega⟩ : Fin 448) e) := by
  have ht : t.val < 28 := t.isLt
  rw [← V_main_arg3 m c]
  blk_ext [iblk, idx t]

/-- The kernel's result for token `b` at sequence position `s`, from the launch contents of its arguments. -/
def token (c : Dev nD) (b : Fin 448) (s : Fin 2048) : EReal :=
  Cert.Heads.finish (Cert.Heads.sumLog (m ((c : Thread nD τ).loc main_arg3))
    (Cert.Heads.lin0 (m ((c : Thread nD τ).loc main_arg0)) (m ((c : Thread nD τ).loc main_arg5)) (m ((c : Thread nD τ).loc main_arg6)) b s)
    (Cert.Heads.lin1 (m ((c : Thread nD τ).loc main_arg1)) (m ((c : Thread nD τ).loc main_arg7)) (m ((c : Thread nD τ).loc main_arg8)) b s)
    (Cert.Heads.lin2 (m ((c : Thread nD τ).loc main_arg2)) (m ((c : Thread nD τ).loc main_arg9)) (m ((c : Thread nD τ).loc main_arg10)) b s) b)

/-- What point `t` leaves at row `r`, lane `l` of its block: the result of token `16 t + r / 16` at position `128 (r % 16) + l`. -/
theorem outAt_at (c : Dev nD) (t : Fin cfg0.N) (r : Fin 256) (l : Fin 128) :
    outAt m c t (ix2 r l) = token m c ⟨16 * t.val + r.val / 16, by have : t.val < 28 := t.isLt; omega⟩ ⟨128 * (r.val % 16) + l.val, by omega⟩ := by
  have ht : t.val < 28 := t.isLt
  show blockAt _ _ _ _ _ _ _ r l = _
  unfold blockAt head
  simp only [prod0_at, prod1_at, prod2_at]
  simp only [blk_b0, blk_b1, blk_b2, blk_g]
  simp only [blk_x0, blk_x1, blk_x2, blk_w0, blk_w1, blk_w2]
  unfold token Cert.Heads.finish Cert.Heads.sumLog Cert.Heads.lin0 Cert.Heads.lin1 Cert.Heads.lin2
  have e0 : (8 * r.val + l.val / 16) / 128 = r.val / 16 := by omega
  have e1 : (4 * r.val + l.val / 32) / 64 = r.val / 16 := by omega
  have e2 : (2 * r.val + l.val / 64) / 32 = r.val / 16 := by omega
  have f0 : (8 * r.val + l.val / 16) % 128 = (128 * (r.val % 16) + l.val) / 16 := by omega
  have f1 : (4 * r.val + l.val / 32) % 64 = (128 * (r.val % 16) + l.val) / 32 := by omega
  have f2 : (2 * r.val + l.val / 64) % 32 = (128 * (r.val % 16) + l.val) / 64 := by omega
  have k0 : (l.val % 16) % 16 = (128 * (r.val % 16) + l.val) % 16 := by omega
  have g0 : l.val % 16 = (128 * (r.val % 16) + l.val) % 16 := by omega
  have g1 : l.val % 32 = (128 * (r.val % 16) + l.val) % 32 := by omega
  have g2 : l.val % 64 = (128 * (r.val % 16) + l.val) % 64 := by omega
  simp only [e0, e1, e2, f0, f1, f2, g0, g1, g2]
  rfl

/-- The array of the kernel's results: row `R`, lane `l` holds token `R / 16` at position `128 (R % 16) + l`. -/
def flat (c : Dev nD) : S7168x128.Idx → EReal := fun i =>
  token m c ⟨(i 0).val / 16, by have : (i 0).val < 7168 := (i 0).isLt; omega⟩ ⟨128 * ((i 0).val % 16) + (i 1).val, by have : (i 1).val < 128 := (i 1).isLt; omega⟩

/-- The result's array after the run: the blocks tile it. -/
theorem final (c : Dev nD) : (dats m 0 c).arrAt 10 cfg0.N = flat m c := by
  refine (dats m 0 c).arrAt_eq_of_covers 10 _ (by decide +kernel) fun t hf y => ?_
  blk_simp
  rw [after_10]
  have h0 : (((cfg0.win 10).blk t).view.emb y 0).val = 256 * t.val + (y 0).val := by
    blk_simp [idx t]; omega
  have h1 : (((cfg0.win 10).blk t).view.emb y 1).val = (y 1).val := by
    blk_simp [idx t]
  have hy0 : (y 0).val < 256 := (y 0).isLt
  have hy1 : (y 1).val < 128 := (y 1).isLt
  have e := outAt_at m c t ⟨(y 0).val, hy0⟩ ⟨(y 1).val, hy1⟩
  refine Eq.trans ?_ (e.trans ?_)
  · congr 1
    funext a; fin_cases a <;> rfl
  · unfold flat
    congr 1 <;> (apply Fin.ext; simp only [h0, h1]; omega)

end Cert.KernelIdeal.Heads

end
-- ==== Proof.Result.lean ====
module

public import proofs.«01_k».proof.Proof.Arr
public import Idealize.ShloMosaic.Lib.Claim

@[expose] public section

set_option maxRecDepth 16384

noncomputable section

namespace Cert.KernelIdeal.Heads

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The program's result: batch `b`, position `s`, channel `h` holds token `14 b + h` at position `s`. -/
def result (c : Dev nD) : S32x2048x14.Idx → EReal := fun i =>
  token m c ⟨14 * (i 0).val + (i 2).val, by have : (i 0).val < 32 := (i 0).isLt; have : (i 2).val < 14 := (i 2).isLt; omega⟩ (i 1)

/-- The array of results, reshaped and transposed, is the program's result. -/
theorem layout (c : Dev nD) :
    transpose S32x2048x14 [0, 2, 1] (shapeCast S32x14x2048 (flat m c) shapeCasts_S7168x128_S32x14x2048) transposes_S32x14x2048_S32x2048x14_0_2_1
      = result m c := by
  funext i
  idx_vars i
  pointwise
  unfold flat result
  congr 1
  · apply Fin.ext; show (i0.val * 224 + i2.val * 16 + i1.val / 128) / 16 = 14 * i0.val + i2.val; omega
  · apply Fin.ext; show 128 * ((i0.val * 224 + i2.val * 16 + i1.val / 128) % 16) + i1.val % 128 = i1.val; omega

/-- The kernel's run: the result, and the arguments unchanged. -/
theorem run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono ?_ (θ_run_and (run_main m ρ) (frame_run m ρ))
  intro r hr c
  refine ⟨?_, hr.2.1 c⟩
  refine ((hr.1.1 c).2 main_v0 (Pipeline.mem_restRefs_of main_v0 (by decide) (by decide))).trans ?_
  rw [← layout m c, ← final m c]
  unfold Pipeline.afterTail₀
  simp only [List.flatten_cons, List.flatten_nil, List.append_nil, hostOps1, StableHlo.TRef.unary, StableHlo.TRef.toBuf, StableHlo.TRef.ofBuf, cast_eq]
  after_results
  rw [show Pipeline.withArrays (cfgs 0).spec c (V0 m c) (fun w => (dats m 0 c).arrAt w (cfgs 0).N) (Proc.devRef .tc main_call0_v12)
    = (dats m 0 c).arrAt 10 cfg0.N from Pipeline.withArrays_arr (cfgs 0).spec launch0.win.arr_inj c (V0 m c) (fun w => (dats m 0 c).arrAt w (cfgs 0).N) 10]
  rfl

end Cert.KernelIdeal.Heads

end
-- ==== Proof.Positions.lean ====
module

public import proofs.«01_k».proof.Proof.Gen.ReferenceIdeal.Run
public import Idealize.ShloMosaic.Lib.Pointwise
public import Idealize.ShloMosaic.Lib.Routing.OpsPair
public import Idealize.ShloMosaic.Lib.Routing.Ops

@[expose] public section

set_option maxRecDepth 16384

noncomputable section

namespace Cert.ReferenceIdeal.Dispatch

open Cert.ReferenceIdeal Cert.ReferenceIdeal.Gen Cert.ReferenceIdeal.Value
open Idealize.ShloMosaic Idealize.ShloMosaic.TcCoe

/-- Of the numbers `1, …, n`, exactly one is `x` if `x` is between `1` and `n`, and none otherwise. -/
theorem count_succ_eq (n x : Nat) : Nat.count (fun i => i + 1 = x) n = if 0 < x ∧ x ≤ n then 1 else 0 := by
  induction n with
  | zero => rw [Nat.count_zero, if_neg (by omega)]
  | succ n ih =>
    rw [Nat.count_succ, ih]
    split_ifs <;> omega

/-- One for each of the numbers `1, …, n`, and nothing for zero, adds up to `n`. -/
theorem sum_but_first (n : Nat) : ((List.range (n + 1)).map fun x => if x = 0 then 0 else 1).sum = n := by
  rw [List.range_succ_eq_map, List.map_cons, List.map_map, List.sum_cons]
  simp [Function.comp_def]

variable (V : Valuation τ sig (Elt Ideal))

/-- Every gate weight is above zero. -/
abbrev Positive : Prop := ∀ (b : Fin 448) (e : Fin 3), (0 : EReal) < V (Proc.devRef .tc main_arg3) (ix2 b e)

variable {V} (h : Positive V)
include h

/-- Every entry of the flattened gate table is marked as not zero. -/
theorem mask (t : Fin 1344) : res_main_v17 V (ix1 t) = 1#1 := by
  pointwise [res_main_v17]
  rw [decide_eq_true (h _ _).ne']
  rfl

/-- Place `t` of the running count of the marks holds `t + 1`. -/
theorem count (t : Fin 1344) : res_main_v18 V (ix1 t) = BitVec.ofNat 32 (t.val + 1) := by
  unfold res_main_v18
  rw [ix1_eq_valueIdx]
  refine (Routing.cumsum1 (by norm_num) _ (fun _ => 1) (fun i => ?_) _ ?_ _ _ t).trans ?_
  · rw [← ix1_eq_valueIdx]
    pointwise
    rw [mask h i]
    rfl
  · rw [← ix0_eq_valueIdx]
    pointwise
  · simp

/-- Place `t` of the marks' positions holds `t`. -/
theorem position (t : Fin 1344) : res_main_v28 V (ix1 t) = BitVec.ofNat 32 t.val := by
  unfold res_main_v28
  rw [ix1_eq_valueIdx]
  refine (Routing.cumsum1 (by norm_num) _ (fun x => if x = 0 then 0 else 1) (fun x => ?_) _ ?_ _ _ t).trans ?_
  · refine (Routing.scatter_hist _ rfl rfl rfl _ (fun i => ?_) _ _ (fun i => ?_) (fun i => i + 1) (fun i => ?_) (fun i => by omega) x).trans ?_
    · idx_vars i
      pointwise
    · idx_vars i
      pointwise
    · rw [← ix2_eq_valueIdx]
      pointwise
      rw [count h i]
      refine Routing.wrap_of_lt _ _ ?_
      rw [BitVec.toNat_ofNat, Nat.mod_eq_of_lt (by omega)]
      omega
    · have hx := x.isLt
      have e : Nat.count (fun i => i + 1 = x.val) 1344 = if x.val = 0 then 0 else 1 := by
        rw [count_succ_eq]
        split_ifs <;> omega
      exact congrArg (BitVec.ofNat 32) e
  · rw [← ix0_eq_valueIdx]
    pointwise
  · exact congrArg (BitVec.ofNat 32) (sum_but_first t.val)

/-- No place is past the number of marks, so none is blanked. -/
theorem kept (t : Fin 1344) : res_main_v38 V (ix1 t) = 0#1 := by
  have e : Host.reduce IntOp.addi (extui 32 (res_main_v17 V) natLt_1_32) (constantI S_ 32 0#32) reducesTo_S1344_S_d0 h_S_ ix0 = 1344#32 := by
    rw [ix0_eq_valueIdx]
    refine (Routing.reduce_sum _ (fun _ => 1) (fun i => ?_) _ _).trans ?_
    · rw [← ix1_eq_valueIdx]
      pointwise
      rw [mask h i]
      rfl
    · have es : ((List.range 1344).map fun _ => 1).sum = 1344 := by simp
      exact congrArg (BitVec.ofNat 32) es
  unfold res_main_v38
  generalize Host.reduce IntOp.addi (extui 32 (res_main_v17 V) natLt_1_32) (constantI S_ 32 0#32) reducesTo_S1344_S_d0 h_S_ = r at e ⊢
  pointwise
  rw [e]
  have small : ∀ t : Fin 1344, IntOp.cmpi .sge (BitVec.ofNat 32 t.val) 1344#32 = 0#1 := by decide +kernel
  exact small t

/-- The first column of the list of places: row `t / 3`. -/
theorem row (t : Fin 1344) : res_main_v43 V (ix2 t 0) = BitVec.ofNat 32 (t.val / 3) := by
  pointwise [res_main_v43, res_main_call3_v4, res_main_call3_v2, res_main_call3_v0, res_main_call2_v0, res_main_call2_v2, id_eq, kept h t, position h t]
  revert t
  decide +kernel

/-- The second column of the list of places: column `t % 3`. -/
theorem column (t : Fin 1344) : res_main_v43 V (ix2 t 1) = BitVec.ofNat 32 (t.val % 3) := by
  pointwise [res_main_v43, res_main_call5_v4, res_main_call5_v2, res_main_call5_v0, res_main_call4_v0, res_main_call4_v2, id_eq, kept h t, position h t]
  revert t
  decide +kernel

end Cert.ReferenceIdeal.Dispatch
-- ==== Proof.Gathers.lean ====
module

public import proofs.«01_k».proof.Proof.Gen.ReferenceIdeal.Run
public import Idealize.ShloMosaic.Lib.Pointwise
public import Idealize.ShloMosaic.Lib.Routing.OpsPair
public import Idealize.ShloMosaic.Lib.Routing.Ops

@[expose] public section

set_option maxRecDepth 16384

noncomputable section

namespace Cert.ReferenceIdeal.Dispatch

open Cert.ReferenceIdeal Cert.ReferenceIdeal.Gen
open Idealize.ShloMosaic Idealize.ShloMosaic.TcCoe

/-- A word below `2 ^ 31` read signed and cut off at a bound it does not pass is itself. -/
theorem clamp_ofNat (k M : Nat) (hk : k ≤ M) (hM : M < 2 ^ 31) : min (BitVec.ofNat 32 k).toInt.toNat M = k := by
  rw [StableHlo.Predicate.toInt_ofNat_small k (by omega)]
  omega

/-- Looking up along the rows, column by column: entry `(t, u)` is the operand's at row `k`, column `u`,
    where `k` is the index word at `(t, u)`. -/
theorem gather_rows {α : Type} (x : S1344x2.Idx → α) (idx : IVec S1344x2x1 32) (t : Fin 1344) (u : Fin 2) (k : Fin 1344)
    (hk : idx (ix3 t u 0) = BitVec.ofNat 32 k.val) :
    Host.gather gather_S1344x2_S1344x2x1_S1344x2_n_0_1_1_0_2_11 x idx (ix2 t u) = x (ix2 k u) := by
  unfold Host.gather
  refine congrArg x (funext fun a => Fin.ext ?_)
  have hs : ∀ q, GatherDims.siIdx gather_S1344x2_S1344x2x1_S1344x2_n_0_1_1_0_2_11 (ix2 t u) q = ix3 t u 0 := fun q => by
    funext b
    match b with
    | ⟨0, _⟩ => rfl
    | ⟨1, _⟩ => rfl
    | ⟨2, _⟩ => exact Subsingleton.elim (α := Fin 1) _ _
  match a with
  | ⟨0, _⟩ =>
    show min (idx (GatherDims.siIdx gather_S1344x2_S1344x2x1_S1344x2_n_0_1_1_0_2_11 (ix2 t u) _)).toInt.toNat 1343 + 0 + 0 = k.val
    rw [hs, hk, clamp_ofNat _ _ (by omega) (by norm_num), Nat.add_zero]
  | ⟨1, _⟩ => exact (show 0 + u.val + 0 = u.val by omega)

/-- Looking up single entries by row and column words. -/
theorem gather_entry {α : Type} (x : S1344x2.Idx → α) (idx : IVec S1344x2 32) (t : Fin 1344) (r : Fin 1344) (c : Fin 2)
    (hr : idx (ix2 t 0) = BitVec.ofNat 32 r.val) (hc : idx (ix2 t 1) = BitVec.ofNat 32 c.val) :
    Host.gather gather_S1344x2_S1344x2_S1344_n_01_n_n_01_1_11 x idx (ix1 t) = x (ix2 r c) := by
  unfold Host.gather
  refine congrArg x (funext fun a => Fin.ext ?_)
  match a with
  | ⟨0, _⟩ =>
    have hs : GatherDims.siIdx gather_S1344x2_S1344x2_S1344_n_01_n_n_01_1_11 (ix1 t) ⟨0, by decide⟩ = ix2 t 0 := by
      funext b
      match b with
      | ⟨0, _⟩ => rfl
      | ⟨1, _⟩ => rfl
    show min (idx (GatherDims.siIdx gather_S1344x2_S1344x2_S1344_n_01_n_n_01_1_11 (ix1 t) ⟨0, by decide⟩)).toInt.toNat 1343 + 0 + 0 = r.val
    rw [hs, hr, clamp_ofNat _ _ (by omega) (by norm_num), Nat.add_zero]
  | ⟨1, _⟩ =>
    have hs : GatherDims.siIdx gather_S1344x2_S1344x2_S1344_n_01_n_n_01_1_11 (ix1 t) ⟨1, by decide⟩ = ix2 t 1 := by
      funext b
      match b with
      | ⟨0, _⟩ => rfl
      | ⟨1, _⟩ => rfl
    show min (idx (GatherDims.siIdx gather_S1344x2_S1344x2_S1344_n_01_n_n_01_1_11 (ix1 t) ⟨1, by decide⟩)).toInt.toNat 1 + 0 + 0 = c.val
    rw [hs, hc, clamp_ofNat _ _ (by omega) (by norm_num), Nat.add_zero]

/-- Looking up one column of each row: entry `t` is the operand's at row `t`, column `k`, where `k` is the index
    word at `t`. -/
theorem gather_column {α : Type} (x : S1344x3.Idx → α) (idx : IVec S1344x1x1 32) (t : Fin 1344) (k : Fin 3)
    (hk : idx (ix3 t 0 0) = BitVec.ofNat 32 k.val) :
    Host.gather gather_S1344x3_S1344x1x1_S1344x1_n_1_0_0_1_2_11 x idx (ix2 t 0) = x (ix2 t k) := by
  unfold Host.gather
  refine congrArg x (funext fun a => Fin.ext ?_)
  have hs : ∀ q, GatherDims.siIdx gather_S1344x3_S1344x1x1_S1344x1_n_1_0_0_1_2_11 (ix2 t 0) q = ix3 t 0 0 := fun q => by
    funext b
    match b with
    | ⟨0, _⟩ => rfl
    | ⟨1, _⟩ => rfl
    | ⟨2, _⟩ => exact Subsingleton.elim (α := Fin 1) _ _
  match a with
  | ⟨0, _⟩ => exact (show 0 + t.val + 0 = t.val by omega)
  | ⟨1, _⟩ =>
    show min (idx (GatherDims.siIdx gather_S1344x3_S1344x1x1_S1344x1_n_1_0_0_1_2_11 (ix2 t 0) _)).toInt.toNat 2 + 0 + 0 = k.val
    rw [hs, hk, clamp_ofNat _ _ (by omega) (by norm_num), Nat.add_zero]

/-- Looking up whole rows of the gate table. -/
theorem gather_gates {α : Type} (x : S448x3.Idx → α) (idx : IVec S1344x1 32) (t : Fin 1344) (e : Fin 3) (b : Fin 448)
    (hb : idx (ix2 t 0) = BitVec.ofNat 32 b.val) :
    Host.gather gather_S448x3_S1344x1_S1344x3_1_0_n_n_0_1_13 x idx (ix2 t e) = x (ix2 b e) := by
  rw [ix2_eq_valueIdx, ix2_eq_valueIdx]
  exact Routing.gather_row _ rfl rfl rfl rfl rfl x idx t e b (by rw [← ix2_eq_valueIdx]; exact hb) (by norm_num)

end Cert.ReferenceIdeal.Dispatch
-- ==== Proof.Sort.lean ====
module

public import Idealize.ShloMosaic.Lib.PlanTiles.StableSort

@[expose] public section

namespace Cert.Dispatch

open Idealize.ShloMosaic

/-- A stable sort by a numeric key that may repeat: if `σ` lists every position once, smaller keys first and
    equal keys in their old order, then the sort puts position `σ i` at place `i`. -/
theorem sortedFrom_of_order {n : Nat} (key : Fin n → Nat) (M : Nat) (hM : ∀ a, key a ≤ M) (σ : Fin n → Fin n)
    (hinj : Function.Injective σ)
    (hord : ∀ i j, i < j → key (σ i) < key (σ j) ∨ (key (σ i) = key (σ j) ∧ σ i < σ j)) (i : Fin n) :
    sortedFrom (fun a b => decide (key a < key b)) i = σ i := by
  have hB : (fun a b : Fin n => decide (key a < key b)) = fun a b => decide (M - key b < M - key a) := by
    funext a b
    have ha := hM a
    have hb := hM b
    by_cases h : key a < key b
    · rw [decide_eq_true h, decide_eq_true (by omega)]
    · rw [decide_eq_false h, decide_eq_false (by omega)]
  have h1 : (sortPositions n fun a b => decide (key a < key b)).Pairwise (PlanTiles.Lex (fun a => M - key a) (· < ·)) := by
    rw [hB]
    exact PlanTiles.pairwise_stableSort_lex (fun a => M - key a) (· < ·) (List.finRange n) (List.pairwise_lt_finRange n)
  have h2 : (List.ofFn σ).Pairwise (PlanTiles.Lex (fun a => M - key a) (· < ·)) := by
    rw [List.pairwise_ofFn]
    intro a b hab
    have ha := hM (σ a)
    have hb := hM (σ b)
    rcases hord a b hab with h | ⟨h, h'⟩
    · exact Or.inl (by dsimp only; omega)
    · exact Or.inr ⟨by dsimp only; omega, h'⟩
  have hp : (sortPositions n fun a b => decide (key a < key b)).Perm (List.ofFn σ) := by
    refine (perm_sortPositions n _).trans ?_
    refine (List.perm_ext_iff_of_nodup (List.nodup_finRange n) (List.nodup_ofFn.2 hinj)).2 fun a => ?_
    simp only [List.mem_finRange, true_iff, List.mem_ofFn]
    exact Finite.injective_iff_surjective.1 hinj a
  have : Std.Antisymm (PlanTiles.Lex (fun a : Fin n => M - key a) (· < ·)) := ⟨fun a b h₁ h₂ => by
    rcases h₁ with h₁ | ⟨h₁, h₁'⟩ <;> rcases h₂ with h₂ | ⟨h₂, h₂'⟩ <;> first | omega | exact absurd h₁' (lt_asymm h₂')⟩
  have e := hp.eq_of_pairwise' h1 h2
  unfold sortedFrom
  rw [List.get_of_eq e, List.get_ofFn]
  rfl

end Cert.Dispatch
-- ==== Proof.Order.lean ====
module

public import proofs.«01_k».proof.Proof.Positions
public import proofs.«01_k».proof.Proof.Gathers
public import proofs.«01_k».proof.Proof.Sort

@[expose] public section

set_option maxRecDepth 16384

noncomputable section

namespace Cert.ReferenceIdeal.Dispatch

open Cert.ReferenceIdeal Cert.ReferenceIdeal.Gen Cert.ReferenceIdeal.Value
open Idealize.ShloMosaic Idealize.ShloMosaic.TcCoe

variable {V : Valuation τ sig (Elt Ideal)} (h : Positive V)

/-- The place that the sort by expert puts at `t`: expert `t / 448`, token `t % 448`. -/
def place (t : Fin 1344) : Fin 1344 := ⟨3 * (t.val % 448) + t.val / 448, by omega⟩

theorem place_val (t : Fin 1344) : (place t).val = 3 * (t.val % 448) + t.val / 448 := rfl

/-- Different slots have different places. -/
theorem place_injective : Function.Injective place := by
  have num : ∀ m n : Nat, m < 1344 → n < 1344 → 3 * (m % 448) + m / 448 = 3 * (n % 448) + n / 448 → m = n := by
    intro m n hm hn e
    have em : (3 * (m % 448) + m / 448) % 3 = m / 448 := by omega
    have en : (3 * (n % 448) + n / 448) % 3 = n / 448 := by omega
    have ed : m / 448 = n / 448 := by rw [← em, ← en, e]
    have er : m % 448 = n % 448 := by
      rw [ed] at e
      exact Nat.eq_of_mul_eq_mul_left (by norm_num) (Nat.add_right_cancel e)
    rw [← Nat.div_add_mod m 448, ← Nat.div_add_mod n 448, ed, er]
  exact fun a b e => Fin.ext (num _ _ a.isLt b.isLt (congrArg Fin.val e))

/-- A later slot has a later expert, or the same expert and a later token. -/
theorem place_order (i j : Fin 1344) (hij : i < j) :
    (place i).val % 3 < (place j).val % 3 ∨ ((place i).val % 3 = (place j).val % 3 ∧ place i < place j) := by
  have hij' : i.val < j.val := hij
  have hj := j.isLt
  have ei : (3 * (i.val % 448) + i.val / 448) % 3 = i.val / 448 := by omega
  have ej : (3 * (j.val % 448) + j.val / 448) % 3 = j.val / 448 := by omega
  rw [Fin.lt_def, place_val, place_val, ei, ej]
  omega

/-- A number below 1344, written as a word, is not negative, so wrapping leaves it alone. -/
theorem wrap_small (k : Nat) (hk : k < 1344) (a : BitVec 32) :
    Scalar.select (IntOp.cmpi .slt (BitVec.ofNat 32 k) 0#32) a (BitVec.ofNat 32 k) = BitVec.ofNat 32 k := by
  refine Routing.wrap_of_lt _ _ ?_
  rw [BitVec.toNat_ofNat, Nat.mod_eq_of_lt (by omega)]
  omega

/-- The conjunction of bits that are all one is one. -/
theorem fold_and {ι : Type} (s : Finset ι) (f : ι → BitVec 1) (hf : ∀ x ∈ s, f x = 1#1) : Finset.fold IntOp.andi (1#1) f s = 1#1 := by
  classical
  induction s using Finset.induction_on with
  | empty => rfl
  | insert a s ha ih =>
    rw [Finset.fold_insert ha, hf a (Finset.mem_insert_self a s), ih fun x hx => hf x (Finset.mem_insert_of_mem hx)]
    rfl

/-- A number at most `M`, written as a word, passes the test for lying between zero and `M`. -/
theorem in_range (k M : Nat) (hk : k ≤ M) (hM : M < 2 ^ 31) :
    IntOp.andi (IntOp.cmpi .sge (BitVec.ofNat 32 k) 0#32) (IntOp.cmpi .sle (BitVec.ofNat 32 k) (BitVec.ofNat 32 M)) = 1#1 := by
  have e0 : (BitVec.ofNat 32 k).toInt = k := StableHlo.Predicate.toInt_ofNat_small k (by omega)
  have eM : (BitVec.ofNat 32 M).toInt = M := StableHlo.Predicate.toInt_ofNat_small M (by omega)
  have h1 : IntOp.cmpi .sge (BitVec.ofNat 32 k) 0#32 = 1#1 := by
    show BitVec.ofBool (BitVec.sle 0#32 (BitVec.ofNat 32 k)) = 1#1
    rw [BitVec.sle, e0, decide_eq_true (by simp)]
    rfl
  have h2 : IntOp.cmpi .sle (BitVec.ofNat 32 k) (BitVec.ofNat 32 M) = 1#1 := by
    show BitVec.ofBool (BitVec.sle (BitVec.ofNat 32 k) (BitVec.ofNat 32 M)) = 1#1
    rw [BitVec.sle, e0, eM, decide_eq_true (by omega)]
    rfl
  rw [h1, h2]
  rfl

/-- Comparing two column numbers as words is comparing the numbers. -/
theorem before_iff (a b : Nat) (ha : a < 3) (hb : b < 3) (p q : BitVec 32) :
    (comparator_i32_i32_d0 (BitVec.ofNat 32 a, p) (BitVec.ofNat 32 b, q) == 1#1) = decide (a < b) := by
  have small : ∀ a b : Fin 3, (IntOp.cmpi .slt (BitVec.ofNat 32 a.val) (BitVec.ofNat 32 b.val) == 1#1) = decide (a.val < b.val) := by
    decide
  exact small ⟨a, ha⟩ ⟨b, hb⟩

/-- Changing the row of an index of a two-column table. -/
theorem along_row (t k : Fin 1344) (u : Fin 2) (hd : 0 < S1344x2.rank) :
    (ix2 t u : S1344x2.Idx).along (⟨0, hd⟩ : Fin S1344x2.rank) k = ix2 k u := by
  funext a
  match a with
  | ⟨0, _⟩ => rfl
  | ⟨1, _⟩ => rfl

include h

/-- The stable sort of the columns: entry `t` of the second column names the place of token `t % 448` for expert
    `t / 448`. -/
theorem order (t : Fin 1344) : res_main_v44 V (ix2 t 1) = BitVec.ofNat 32 (place t).val := by
  have hd : 0 < S1344x2.rank := Nat.zero_lt_two
  have hB : (fun k k' : Fin 1344 =>
      comparator_i32_i32_d0 (res_main_v43 V ((ix2 t 1 : S1344x2.Idx).along ⟨0, hd⟩ k), res_main_call8_v0 V ((ix2 t 1 : S1344x2.Idx).along ⟨0, hd⟩ k))
        (res_main_v43 V ((ix2 t 1 : S1344x2.Idx).along ⟨0, hd⟩ k'), res_main_call8_v0 V ((ix2 t 1 : S1344x2.Idx).along ⟨0, hd⟩ k')) == 1#1)
      = fun k k' => decide (k.val % 3 < k'.val % 3) := by
    funext k k'
    rw [along_row t k 1 hd, along_row t k' 1 hd, column h k, column h k']
    exact before_iff _ _ (by omega) (by omega) _ _
  have hsrc := Cert.Dispatch.sortedFrom_of_order (fun k : Fin 1344 => k.val % 3) 2 (fun a => Nat.le_of_lt_succ (Nat.mod_lt _ (by norm_num)))
    place place_injective place_order t
  unfold res_main_v44 Host.sort2
  rw [dif_pos hd]
  refine (congrArg (fun g => res_main_call8_v0 V ((ix2 t 1 : S1344x2.Idx).along ⟨0, hd⟩ (sortedFrom (n := 1344) g t))) hB).trans ?_
  refine (congrArg (fun k : Fin 1344 => res_main_call8_v0 V ((ix2 t 1 : S1344x2.Idx).along ⟨0, hd⟩ k)) hsrc).trans ?_
  rw [along_row]
  pointwise [res_main_call8_v0]

/-- The wrapped row word that the lookup along the rows uses. -/
theorem lookup (t : Fin 1344) : res_main_call9_v5 V (ix3 t 1 0) = BitVec.ofNat 32 (place t).val := by
  pointwise [res_main_call9_v5]
  rw [order h]
  exact wrap_small _ (place t).isLt _

/-- The expert of slot `t`. -/
theorem expert (t : Fin 1344) : res_main_v46 V (ix2 t 0) = BitVec.ofNat 32 (t.val / 448) := by
  pointwise [res_main_v46]
  rw [fold_and, gather_rows (k := place t) (hk := lookup h t), column h]
  · rw [place_val]
    have e : (3 * (t.val % 448) + t.val / 448) % 3 = t.val / 448 := by omega
    rw [e]
    rfl
  · intro x hx
    idx_vars x
    have hx' := (Finset.mem_filter.1 hx).2
    have e0 : x0 = t := congrFun hx' 0
    have e1 : x1 = 1 := congrFun hx' 1
    have e2 : x2 = 0 := Subsingleton.elim _ _
    rw [e0, e1, e2, lookup h t]
    exact in_range _ _ (by omega) (by norm_num)

/-- The token of slot `t`. -/
theorem token (t : Fin 1344) : res_main_v59 V (ix1 t) = BitVec.ofNat 32 (t.val % 448) := by
  unfold res_main_v59
  rw [gather_entry (r := place t) (c := 0)]
  · rw [row h, place_val]
    have e : (3 * (t.val % 448) + t.val / 448) / 3 = t.val % 448 := by omega
    rw [e]
  · pointwise [res_main_v48]
    rw [order h]
    exact wrap_small _ (place t).isLt _
  · pointwise [id_eq]

end Cert.ReferenceIdeal.Dispatch
-- ==== Proof.Combine.lean ====
module

public import proofs.«01_k».proof.Proof.Order
public import proofs.«01_k».proof.Proof.Model

@[expose] public section

set_option maxRecDepth 16384

noncomputable section

namespace Cert.ReferenceIdeal.Dispatch

open Cert.ReferenceIdeal Cert.ReferenceIdeal.Gen Cert.ReferenceIdeal.Value
open Idealize.ShloMosaic Idealize.ShloMosaic.TcCoe Cert.Heads

/-- Where an update lands: update `(t, s, 0)` is added at `(b, s', 0)` exactly when its row word is `b` and `s` is `s'`. -/
theorem lands (idx : IVec S1344x1 32) (t : Fin 1344) (s s' : Fin 2048) (k : Fin 448) (b : Fin 448)
    (hk : idx (ix2 t 0) = BitVec.ofNat 32 k.val) :
    scatter_S448x2048x1_S1344x1_S1344x2048x1_12_0_0_1.resultIdx? (ix3 t s 0) idx = some (ix3 b s' 0) ↔ k = b ∧ s = s' := by
  have hs : ∀ q, ScatterDims.siIdx scatter_S448x2048x1_S1344x1_S1344x2048x1_12_0_0_1 (ix3 t s 0) q = ix2 t 0 := fun q => by
    funext a
    match a with
    | ⟨0, _⟩ => rfl
    | ⟨1, _⟩ => exact Subsingleton.elim (α := Fin 1) _ _
  have h0 : ScatterDims.start scatter_S448x2048x1_S1344x1_S1344x2048x1_12_0_0_1 (ix3 t s 0) idx 0 = k.val := by
    show (idx (ScatterDims.siIdx scatter_S448x2048x1_S1344x1_S1344x2048x1_12_0_0_1 (ix3 t s 0) _)).toInt = _
    rw [hs, hk]
    exact StableHlo.Predicate.toInt_ofNat_small k.val (by omega)
  rw [Routing.resultIdx?_eq_some]
  constructor
  · intro h
    have a0 := h 0
    have a1 := h 1
    rw [h0] at a0
    have a0' : ((k.val : Int) + ((0 : Nat) : Int)) = (b.val : Int) := a0
    have a1' : ((0 : Int) + ((s.val : Nat) : Int)) = (s'.val : Int) := a1
    exact ⟨Fin.ext (by omega), Fin.ext (by omega)⟩
  · rintro ⟨rfl, rfl⟩ a
    match a with
    | ⟨0, _⟩ =>
      show ScatterDims.start scatter_S448x2048x1_S1344x1_S1344x2048x1_12_0_0_1 (ix3 t s 0) idx 0 + ((0 : Nat) : Int) = (k.val : Int)
      rw [h0]
      omega
    | ⟨1, _⟩ => exact (show (0 : Int) + ((s.val : Nat) : Int) = (s.val : Int) by omega)
    | ⟨2, _⟩ => rfl

/-- The slot of expert `e` and token `b`. -/
def slot (e : Fin 3) (b : Fin 448) : Fin 1344 := ⟨448 * e.val + b.val, by omega⟩

theorem slot_mod (e : Fin 3) (b : Fin 448) : (slot e b).val % 448 = b.val := by
  show (448 * e.val + b.val) % 448 = b.val
  omega

theorem slot_div (e : Fin 3) (b : Fin 448) : (slot e b).val / 448 = e.val := by
  show (448 * e.val + b.val) / 448 = e.val
  omega

/-- The sum over the experts: where the slots' rows are their tokens, entry `(b, s)` of the result is the start value
    plus the updates of token `b`'s three slots. -/
theorem scatter_slots (x : FVec Ideal S448x2048x1 .f32) (idx : IVec S1344x1 32) (upd : FVec Ideal S1344x2048x1 .f32)
    (hidx : ∀ t : Fin 1344, idx (ix2 t 0) = BitVec.ofNat 32 (t.val % 448)) (b : Fin 448) (s : Fin 2048) :
    Host.scatterAdd scatter_S448x2048x1_S1344x1_S1344x2048x1_12_0_0_1 x idx upd (ix3 b s 0)
      = x (ix3 b s 0) + ∑ e : Fin 3, upd (ix3 (slot e b) s 0) := by
  classical
  have hinj : Function.Injective fun e : Fin 3 => (ix3 (slot e b) s 0 : S1344x2048x1.Idx) := fun e e' h => by
    have h0 : slot e b = slot e' b := congrFun h 0
    have h1 := slot_div e b
    rw [h0, slot_div e' b] at h1
    exact Fin.ext h1.symm
  have hset : (Finset.univ.filter fun j : S1344x2048x1.Idx =>
      scatter_S448x2048x1_S1344x1_S1344x2048x1_12_0_0_1.resultIdx? j idx = some (ix3 b s 0))
      = Finset.univ.image fun e : Fin 3 => (ix3 (slot e b) s 0 : S1344x2048x1.Idx) := by
    ext j
    idx_vars j
    obtain rfl : j2 = 0 := Subsingleton.elim _ _
    rw [Finset.mem_filter, Finset.mem_image, lands idx j0 j1 s ⟨j0.val % 448, Nat.mod_lt _ (by norm_num)⟩ b (hidx j0)]
    constructor
    · rintro ⟨-, hb, rfl⟩
      refine ⟨⟨j0.val / 448, by omega⟩, Finset.mem_univ _, ?_⟩
      have e : slot ⟨j0.val / 448, by omega⟩ b = j0 := by
        rw [← hb]
        exact Fin.ext (Nat.div_add_mod j0.val 448)
      rw [e]
    · rintro ⟨e, -, he⟩
      have e0 : slot e b = j0 := congrFun he 0
      have e1 : s = j1 := congrFun he 1
      refine ⟨Finset.mem_univ _, Fin.ext ?_, e1.symm⟩
      rw [← e0]
      exact slot_mod e b
  show x (ix3 b s 0) + ∑ j ∈ Finset.univ.filter (fun j => scatter_S448x2048x1_S1344x1_S1344x2048x1_12_0_0_1.resultIdx? j idx = some (ix3 b s 0)), upd j = _
  rw [hset, Finset.sum_image fun a _ a' _ h => hinj h]

/-- The gate weights of the slots, checked for range and repeated along the positions. -/
def gates (V : Valuation τ sig (Elt Ideal)) : FVec Ideal S1344x2048x1 .f32 :=
  broadcastInDim S1344x2048x1 ![0, 1, 2] bcast_S1344x1x1_S1344x2048x1_0_1_2 (broadcastInDim S1344x1x1 ![0, 1] bcast_S1344x1_S1344x1x1_0_1
    (select (Host.reduce IntOp.andi (andi (cmpi .sge (res_main_call10_v5 V) (broadcastInDim S1344x1x1 ![] bcast_S_S1344x1x1 (constantI S_ 32 0#32))) (cmpi .sle (res_main_call10_v5 V) (broadcastInDim S1344x1x1 ![0, 1, 2] bcast_S1x1x1_S1344x1x1_0_1_2 (broadcastInDim S1x1x1 ![2] bcast_S1_S1x1x1_2 (constantI S1 32 2#32))))) (constantI S_ 1 1#1) reducesTo_S1344x1x1_S1344x1_d2 h_S_)
      (Host.gather gather_S1344x3_S1344x1x1_S1344x1_n_1_0_0_1_2_11 (Host.gather gather_S448x3_S1344x1_S1344x3_1_0_n_n_0_1_13 (V (Proc.devRef .tc main_arg3)) (broadcastInDim S1344x1 ![0] bcast_S1344_S1344x1_0
    (select (cmpi .slt (res_main_v59 V) (broadcastInDim S1344 ![] bcast_S_S1344 (constantI S_ 32 0#32))) (addi (res_main_v59 V) (broadcastInDim S1344 ![] bcast_S_S1344 (constantI S_ 32 448#32))) (res_main_v59 V)))) (res_main_call10_v5 V))
      (broadcastInDim S1344x1 ![] bcast_S_S1344x1 (constant S_ .f32 0x7FC00000#32))))

/-- The three heads, one under the other: the slots' values. -/
def heads (V : Valuation τ sig (Elt Ideal)) : FVec Ideal S1344x2048x1 .f32 :=
  concatenate S1344x2048x1 0
    [⟨S448x2048x1, (shapeCast _ (addf (Host.dotGeneral (φ₁ := .f32) (φ₂ := .f32) dot_S448x128x768_S16x768_S448x128x16_2_1_01_0_n_n none (V (Proc.devRef .tc main_arg0)) (V (Proc.devRef .tc main_arg5))) (broadcastInDim S448x128x16 ![0, 1, 2] bcast_S1x1x16_S448x128x16_0_1_2 (broadcastInDim S1x1x16 ![2] bcast_S16_S1x1x16_2 (V (Proc.devRef .tc main_arg6))))) shapeCasts_S448x128x16_S448x2048x1)⟩,
     ⟨S448x2048x1, (shapeCast _ (addf (Host.dotGeneral (φ₁ := .f32) (φ₂ := .f32) dot_S448x64x768_S32x768_S448x64x32_2_1_01_0_n_n none (V (Proc.devRef .tc main_arg1)) (V (Proc.devRef .tc main_arg7))) (broadcastInDim S448x64x32 ![0, 1, 2] bcast_S1x1x32_S448x64x32_0_1_2 (broadcastInDim S1x1x32 ![2] bcast_S32_S1x1x32_2 (V (Proc.devRef .tc main_arg8))))) shapeCasts_S448x64x32_S448x2048x1)⟩,
     ⟨S448x2048x1, (shapeCast _ (addf (Host.dotGeneral (φ₁ := .f32) (φ₂ := .f32) dot_S448x32x768_S64x768_S448x32x64_2_1_01_0_n_n none (V (Proc.devRef .tc main_arg2)) (V (Proc.devRef .tc main_arg9))) (broadcastInDim S448x32x64 ![0, 1, 2] bcast_S1x1x64_S448x32x64_0_1_2 (broadcastInDim S1x1x64 ![2] bcast_S64_S1x1x64_2 (V (Proc.devRef .tc main_arg10))))) shapeCasts_S448x32x64_S448x2048x1)⟩] concatenates_S448x2048x1_S448x2048x1_S448x2048x1_S1344x2048x1_d0

/-- The rows that the slots' products are added to. -/
def rows (V : Valuation τ sig (Elt Ideal)) : IVec S1344x1 32 :=
  broadcastInDim S1344x1 ![0] bcast_S1344_S1344x1_0 (select (cmpi .slt (res_main_v59 V) (broadcastInDim S1344 ![] bcast_S_S1344 (constantI S_ 32 0#32))) (addi (res_main_v59 V) (broadcastInDim S1344 ![] bcast_S_S1344 (constantI S_ 32 448#32))) (res_main_v59 V))

variable {V : Valuation τ sig (Elt Ideal)} (h : Positive V)
include h

/-- The wrapped column word that the lookup in the gate rows uses. -/
theorem pick (t : Fin 1344) : res_main_call10_v5 V (ix3 t 0 0) = BitVec.ofNat 32 (t.val / 448) := by
  pointwise [res_main_call10_v5]
  rw [expert h]
  exact wrap_small _ (by omega) _

/-- The column words of slot `t` are in range. -/
theorem pick_ok (t : Fin 1344) (x : S1344x1x1.Idx) (hx : reducesTo_S1344x1x1_S1344x1_d2.drop x = ix2 t 0) :
    IntOp.andi (IntOp.cmpi .sge (res_main_call10_v5 V x) 0#32) (IntOp.cmpi .sle (res_main_call10_v5 V x) 2#32) = 1#1 := by
  idx_vars x
  have e0 : x0 = t := congrFun hx 0
  have e1 : x1 = 0 := Subsingleton.elim _ _
  have e2 : x2 = 0 := Subsingleton.elim _ _
  rw [e0, e1, e2, pick h t]
  exact in_range _ _ (by omega) (by norm_num)

/-- The gate weight that slot `(e, b)` looks up is entry `(b, e)` of the gate table. -/
theorem gate (e : Fin 3) (b : Fin 448) (idx : IVec S1344x1 32) (hidx : ∀ t : Fin 1344, idx (ix2 t 0) = BitVec.ofNat 32 (t.val % 448)) :
    Host.gather gather_S1344x3_S1344x1x1_S1344x1_n_1_0_0_1_2_11
        (Host.gather gather_S448x3_S1344x1_S1344x3_1_0_n_n_0_1_13 (V (Proc.devRef .tc main_arg3)) idx)
        (res_main_call10_v5 V) (ix2 (slot e b) 0)
      = V (Proc.devRef .tc main_arg3) (ix2 b e) := by
  rw [gather_column (k := e) (hk := by rw [pick h, slot_div]), gather_gates (b := b) (hb := by rw [hidx, slot_mod])]

/-- The row of slot `t` is its token. -/
theorem rows_at (t : Fin 1344) : rows V (ix2 t 0) = BitVec.ofNat 32 (t.val % 448) := by
  pointwise [rows]
  rw [token h]
  exact wrap_small _ (by omega) _

/-- The gate weight of slot `(e, b)` is entry `(b, e)` of the gate table, at every position. -/
theorem gates_at (e : Fin 3) (b : Fin 448) (s : Fin 2048) : gates V (ix3 (slot e b) s 0) = V (Proc.devRef .tc main_arg3) (ix2 b e) := by
  pointwise [gates]
  rw [fold_and]
  · exact gate h e b _ (rows_at h)
  · exact fun x hx => pick_ok h (slot e b) x (Finset.mem_filter.1 hx).2

omit h

/-- The first 448 slots hold the first head. -/
theorem heads_0 (b : Fin 448) (s : Fin 2048) : heads V (ix3 (slot 0 b) s 0)
    = lin0 (V (Proc.devRef .tc main_arg0)) (V (Proc.devRef .tc main_arg5)) (V (Proc.devRef .tc main_arg6)) b s := by
  have v : (slot 0 b).val = b.val := by show 448 * 0 + b.val = b.val; omega
  have f : ∀ p, (⟨(slot 0 b).val, p⟩ : Fin 448) = b := fun p => Fin.ext v
  pointwise [heads]
  rw [dif_pos (show (slot 0 b).val < 448 by omega)]
  simp only [f]
  rfl

/-- The next 448 slots hold the second head. -/
theorem heads_1 (b : Fin 448) (s : Fin 2048) : heads V (ix3 (slot 1 b) s 0)
    = lin1 (V (Proc.devRef .tc main_arg1)) (V (Proc.devRef .tc main_arg7)) (V (Proc.devRef .tc main_arg8)) b s := by
  have v : (slot 1 b).val = 448 + b.val := by show 448 * 1 + b.val = 448 + b.val; omega
  have f : ∀ p, (⟨(slot 1 b).val - 448, p⟩ : Fin 448) = b := fun p => Fin.ext (by dsimp only; omega)
  pointwise [heads]
  rw [dif_neg (show ¬(slot 1 b).val < 448 by omega), dif_pos (show (slot 1 b).val - 448 < 448 by omega)]
  simp only [f]
  rfl

/-- The last 448 slots hold the third head. -/
theorem heads_2 (b : Fin 448) (s : Fin 2048) : heads V (ix3 (slot 2 b) s 0)
    = lin2 (V (Proc.devRef .tc main_arg2)) (V (Proc.devRef .tc main_arg9)) (V (Proc.devRef .tc main_arg10)) b s := by
  have v : (slot 2 b).val = 896 + b.val := by show 448 * 2 + b.val = 896 + b.val; omega
  have f : ∀ p, (⟨(slot 2 b).val - 448 - 448, p⟩ : Fin 448) = b := fun p => Fin.ext (by dsimp only; omega)
  pointwise [heads]
  rw [dif_neg (show ¬(slot 2 b).val < 448 by omega), dif_neg (show ¬(slot 2 b).val - 448 < 448 by omega)]
  simp only [f]
  rfl

include h

/-- Before the logarithm: entry `(b, s)` is the sum over the experts of their exponentials times their gate weights. -/
theorem combined (b : Fin 448) (s : Fin 2048) : res_main_v80 V (ix3 b s 0)
    = sumMul (V (Proc.devRef .tc main_arg3))
        (lin0 (V (Proc.devRef .tc main_arg0)) (V (Proc.devRef .tc main_arg5)) (V (Proc.devRef .tc main_arg6)) b s)
        (lin1 (V (Proc.devRef .tc main_arg1)) (V (Proc.devRef .tc main_arg7)) (V (Proc.devRef .tc main_arg8)) b s)
        (lin2 (V (Proc.devRef .tc main_arg2)) (V (Proc.devRef .tc main_arg9)) (V (Proc.devRef .tc main_arg10)) b s) b := by
  show Host.scatterAdd scatter_S448x2048x1_S1344x1_S1344x2048x1_12_0_0_1 (broadcastInDim S448x2048x1 ![] bcast_S_S448x2048x1 (constant S_ .f32 0x00000000#32))
    (rows V) (mulf (Host.exp (heads V)) (gates V)) (ix3 b s 0) = _
  rw [scatter_slots _ _ _ (rows_at h), Fin.sum_univ_three]
  pointwise
  rw [heads_0, heads_1, heads_2, gates_at h, gates_at h, gates_at h]
  rfl

end Cert.ReferenceIdeal.Dispatch
-- ==== Proof.Reference.lean ====
module

public import proofs.«01_k».proof.Proof.Combine

@[expose] public section

set_option maxRecDepth 16384

noncomputable section

namespace Cert.ReferenceIdeal.Dispatch

open Cert.ReferenceIdeal Cert.ReferenceIdeal.Gen Cert.ReferenceIdeal.Value
open Idealize.ShloMosaic Idealize.ShloMosaic.TcCoe Idealize.ShloMosaic.StableHlo Idealize.SL.Sem Cert.Heads

/-- The reference at one token and position: the logarithm of the sum of the heads' exponentials, each times its gate. -/
def summed (V : Valuation τ sig (Elt Ideal)) (b : Fin 448) (s : Fin 2048) : EReal :=
  finish (sumMul (V (Proc.devRef .tc main_arg3))
    (lin0 (V (Proc.devRef .tc main_arg0)) (V (Proc.devRef .tc main_arg5)) (V (Proc.devRef .tc main_arg6)) b s)
    (lin1 (V (Proc.devRef .tc main_arg1)) (V (Proc.devRef .tc main_arg7)) (V (Proc.devRef .tc main_arg8)) b s)
    (lin2 (V (Proc.devRef .tc main_arg2)) (V (Proc.devRef .tc main_arg9)) (V (Proc.devRef .tc main_arg10)) b s) b)

/-- The reference's result: batch `b`, position `s`, channel `h` holds token `14 b + h` at position `s`. -/
def answer (V : Valuation τ sig (Elt Ideal)) : S32x2048x14.Idx → EReal := fun i =>
  summed V ⟨14 * (i 0).val + (i 2).val, by have : (i 0).val < 32 := (i 0).isLt; have : (i 2).val < 14 := (i 2).isLt; omega⟩ (i 1)

/-- An array of tokens by positions, its zeros replaced, its logarithm taken, reshaped and transposed, read at one element. -/
theorem finished (a : FVec Ideal S448x2048x1 .f32) (b : Fin 32) (s : Fin 2048) (h : Fin 14) :
    shapeCast S32x2048x14 (transpose S32x2048x14x1 [0, 2, 1, 3] (shapeCast S32x14x2048x1
      (Host.log (select (cmpf .oeq a (broadcastInDim S448x2048x1 ![] bcast_S_S448x2048x1 (constant S_ .f32 0x00000000#32)))
        (broadcastInDim S448x2048x1 ![] bcast_S_S448x2048x1 (constant S_ .f32 0x25800000#32)) a))
      shapeCasts_S448x2048x1_S32x14x2048x1) transposes_S32x14x2048x1_S32x2048x14x1_0_2_1_3) shapeCasts_S32x2048x14x1_S32x2048x14 (ix3 b s h)
      = finish (a (ix3 ⟨14 * b.val + h.val, by omega⟩ s 0)) := by
  unfold finish
  have e : (ix3 ⟨b.val * 14 + h.val, by omega⟩ s 0 : S448x2048x1.Idx) = ix3 ⟨14 * b.val + h.val, by omega⟩ s 0 := by
    congr 1; apply Fin.ext; show b.val * 14 + h.val = 14 * b.val + h.val; omega
  rw [← e]
  pointwise

/-- The array the reference's run leaves is `answer` of the memory at launch, where every gate is positive. -/
theorem answered (V : Valuation τ sig (Elt Ideal)) (hV : Positive V) :
    shapeCast S32x2048x14 (transpose S32x2048x14x1 [0, 2, 1, 3] (shapeCast S32x14x2048x1
      (Host.log (select (cmpf .oeq (res_main_v80 V) (broadcastInDim S448x2048x1 ![] bcast_S_S448x2048x1 (constant S_ .f32 0x00000000#32)))
        (broadcastInDim S448x2048x1 ![] bcast_S_S448x2048x1 (constant S_ .f32 0x25800000#32)) (res_main_v80 V)))
      shapeCasts_S448x2048x1_S32x14x2048x1) transposes_S32x14x2048x1_S32x2048x14x1_0_2_1_3) shapeCasts_S32x2048x14x1_S32x2048x14
      = answer V := by
  funext i
  idx_vars i
  refine (finished _ i0 i1 i2).trans ?_
  rw [combined hV]
  rfl

variable (m : (ℓ : Loc nD τ sig) → Buf (Elt Ideal) ℓ) (ρ : Dev nD → PrngReg)

/-- The reference's run from a memory whose gates are all positive: its result is `answer`, and the arguments are unchanged. -/
theorem run_answer (hV : ∀ c : Dev nD, Positive (launchContents m c)) :
    θ_run defs (onTc (τ := τ) (main (F := Ideal))) ⟨m, fun _ => 0, ρ⟩ (fun r => ∀ c : Dev nD,
      r.2.mem ((c.tc : Thread nD τ).loc main_v87) = answer (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans (answered (launchContents m c) (hV c)), (h c).2⟩) (Value.run m ρ)

end Cert.ReferenceIdeal.Dispatch

end
-- ==== Proof.lean ====
module

public import proofs.«01_k».proof.Defs
public import proofs.«01_k».proof.Proof.Gen.Kernel
public import proofs.«01_k».proof.Proof.Result
public import proofs.«01_k».proof.Proof.Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Heads

/-- The side condition of the precondition: a single number broadcasts to the gates' shape. -/
instance gates_facts : Cert.Pre_gates_positive.Facts := ⟨by decide⟩

/-- The two prints of the kernel have the same body table. -/
theorem bodies_eq : Cert.Kernel.defs₀ (F := Bits) = Cert.KernelIdeal.defs₀ (F := Bits) := by
  funext p l a
  match p with
  | .tc =>
    match l, a with
    | ⟨0, _⟩, (_, _) => rfl
    | ⟨_ + 1, h⟩, _ => exact absurd h (Nat.not_lt.2 (Nat.le_add_left _ _))
  | .scScalar _ => rfl
  | .scVector _ _ => rfl

/-- The two prints of the kernel have the same table of bodies and pipelines. -/
theorem defs_eq : Cert.Kernel.defs (F := Bits) = Cert.KernelIdeal.defs (F := Bits) :=
  congrArg (Pipeline.defs (Cert.Kernel.pcfgs (F := Bits))) bodies_eq

/-- The kernel's frame at the machine's own floats: the run, which is the same at every kind of float. -/
theorem frame_kernel : Cert.quiescent_Kernel := fun m ρ _ => by
  rw [defs_eq]
  exact (θ_run Cert.KernelIdeal.defs _ _).mono (fun _ h => h) (Cert.KernelIdeal.Heads.frame_run (F := Bits) m ρ)

/-- The kernel's frame at the extended reals. -/
theorem frame_kernel_ideal : Cert.quiescent_KernelIdeal := fun m ρ _ => Cert.KernelIdeal.Heads.frame_run m ρ

/-- The reference's frame: its run leaves the arguments, and it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- What the precondition says: every gate is positive. -/
theorem gates_of_pre (m : (ℓ : Loc Cert.KernelIdeal.nD Cert.KernelIdeal.τ Cert.KernelIdeal.sig) → Buf (Elt Ideal) ℓ)
    (h : Cert.Pre_KernelIdeal_gates_positive m) (c : Dev Cert.KernelIdeal.nD) (b : Fin 448) (e : Fin 3) :
    (0 : EReal) < m ((c.tc : Thread Cert.KernelIdeal.nD Cert.KernelIdeal.τ).loc Cert.KernelIdeal.main_arg3) (ix2 b e) := by
  have hc := congrFun (h c) (ix2 b e)
  have hp := (Ideal.cmp_ogt_eq_one _ _).1 hc
  have hz : (Ideal.ofBits .f32 0x00000000#32 : EReal) < m ((c.tc : Thread Cert.KernelIdeal.nD Cert.KernelIdeal.τ).loc Cert.KernelIdeal.main_arg3) (ix2 b e) := hp
  rwa [Ideal.ofBits_zero_f32] at hz

/-- At one token and position, equal arguments and positive gates make the kernel's number and the reference's the same. -/
theorem same {x0 x0' : A3 448 128 768} {x1 x1' : A3 448 64 768} {x2 x2' : A3 448 32 768} {g g' : A2 448 3} {w0 w0' : A2 16 768} {v0 v0' : A1 16}
    {w1 w1' : A2 32 768} {v1 v1' : A1 32} {w2 w2' : A2 64 768} {v2 v2' : A1 64} (ex0 : x0' = x0) (ex1 : x1' = x1) (ex2 : x2' = x2) (eg : g' = g)
    (ew0 : w0' = w0) (ev0 : v0' = v0) (ew1 : w1' = w1) (ev1 : v1' = v1) (ew2 : w2' = w2) (ev2 : v2' = v2)
    (hg : ∀ (b : Fin 448) (e : Fin 3), 0 < g (ix2 b e)) (b : Fin 448) (s : Fin 2048) :
    finish (sumMul g' (lin0 x0' w0' v0' b s) (lin1 x1' w1' v1' b s) (lin2 x2' w2' v2' b s) b)
      = finish (sumLog g (lin0 x0 w0 v0 b s) (lin1 x1 w1 v1 b s) (lin2 x2 w2 v2 b s) b) := by
  subst ex0 ex1 ex2 eg ew0 ev0 ew1 ev1 ew2 ev2
  rw [sumLog_eq_sumMul _ _ _ _ _ hg]

/-- The kernel and the reference end with the same array where every gate is positive. -/
theorem value : Cert.algebraic_KernelIdeal_ReferenceIdeal_pre_gates_positive := by
  intro m g m' g' hpre hagree
  have hg := gates_of_pre m hpre
  have hg' : ∀ c, Cert.ReferenceIdeal.Dispatch.Positive (StableHlo.launchContents m' c) := fun c b e => by
    show (0 : EReal) < m' ((c.tc : Thread Cert.ReferenceIdeal.nD Cert.ReferenceIdeal.τ).loc Cert.ReferenceIdeal.main_arg3) (ix2 b e)
    rw [(hagree c).2.2.2.1]
    exact hg c b e
  refine ⟨fun c => Cert.KernelIdeal.Heads.result m c, Cert.KernelIdeal.Heads.run m g,
    (θ_run Cert.ReferenceIdeal.defs _ _).mono (fun _ h c => ⟨(h c).1.trans ?_, (h c).2⟩) (Cert.ReferenceIdeal.Dispatch.run_answer m' g' hg')⟩
  obtain ⟨a0, a1, a2, a3, -, a5, a6, a7, a8, a9, a10⟩ := hagree c
  funext i
  exact same a0 a1 a2 a3 a5 a6 a7 a8 a9 a10 (hg c) _ _

/-- Everything the certificate claims. -/
theorem claim : Cert.Claim :=
  ⟨Cert.Kernel.Gen.facts, Cert.KernelIdeal.Gen.facts, Cert.ReferenceIdeal.Gen.facts, gates_facts,
    frame_kernel, frame_kernel_ideal, fun m ρ _ => frame_kernel_ideal m ρ trivial,
    frame_reference, fun m ρ _ => frame_reference m ρ trivial, trivial, value⟩

end Cert.Proof

end
